-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v79) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S512x256 : Shape := ⟨2, ![512, 256]⟩
abbrev S256x64 : Shape := ⟨2, ![256, 64]⟩
abbrev S512x2 : Shape := ⟨2, ![512, 2]⟩
abbrev S2x256x512 : Shape := ⟨3, ![2, 256, 512]⟩
abbrev S_ : Shape := ⟨0, ![]⟩

class Facts : Prop where
  bcast_S_S512x256 : S_.BroadcastsInDim S512x256 (![] : Fin 0 → Fin S512x256.rank)
  bcast_S_S256x64 : S_.BroadcastsInDim S256x64 (![] : Fin 0 → Fin S256x64.rank)

variable [Facts]

def fn {F : FTy → Type} [FloatOps F] (main_arg0 : FVec F S512x256 .bf16) (main_arg1 : FVec F S256x64 .bf16) (main_arg2 : IVec S512x2 32) (main_arg3 : FVec F S2x256x512 .bf16) : IVec S512x256 1 × IVec S256x64 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_v3 : FVec F S256x64 .bf16 := Host.absf main_arg1
  let main_cst_0 : FVec F S_ .bf16 := constant S_ .bf16 0x7F80#16
  let main_v4 : FVec F S256x64 .bf16 := broadcastInDim S256x64 ![] bcast_S_S256x64 main_cst_0
  let main_v5 : IVec S256x64 1 := cmpf .olt main_v3 main_v4
  (main_v2, main_v5)
-- ==== Pre_finite_scores_ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S_ : Shape := ⟨0, ![]⟩

class Facts : Prop where
  bcast_S_S512x256 : S_.BroadcastsInDim S512x256 (![] : Fin 0 → Fin S512x256.rank)
  bcast_S_S256x64 : S_.BroadcastsInDim S256x64 (![] : Fin 0 → Fin S256x64.rank)

variable [Facts]

def fn {F : FTy → Type} [FloatOps F] (main_arg0 : FVec F S512x256 .bf16) (main_arg1 : FVec F S256x64 .bf16) (main_arg2 : IVec S512x2 32) (main_arg3 : FVec F S64x256x512 .bf16) : IVec S512x256 1 × IVec S256x64 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_v3 : FVec F S256x64 .bf16 := Host.absf main_arg1
  let main_cst_0 : FVec F S_ .bf16 := constant S_ .bf16 0x7F80#16
  let main_v4 : FVec F S256x64 .bf16 := broadcastInDim S256x64 ![] bcast_S_S256x64 main_cst_0
  let main_v5 : IVec S256x64 1 := cmpf .olt main_v3 main_v4
  (main_v2, main_v5)
-- ==== Kernel.lean ====
abbrev S512x256 : Shape := ⟨2, ![512, 256]⟩
abbrev S256x64 : Shape := ⟨2, ![256, 64]⟩
abbrev S512x2 : Shape := ⟨2, ![512, 2]⟩
abbrev S2x256x512 : Shape := ⟨3, ![2, 256, 512]⟩
abbrev S16x512 : Shape := ⟨2, ![16, 512]⟩
abbrev S32x16x512 : Shape := ⟨3, ![32, 16, 512]⟩
abbrev S32 : Shape := ⟨1, ![32]⟩
abbrev S_ : Shape := ⟨0, ![]⟩
abbrev S512x64 : Shape := ⟨2, ![512, 64]⟩
abbrev S512 : Shape := ⟨1, ![512]⟩
abbrev S512x1 : Shape := ⟨2, ![512, 1]⟩
abbrev S512x512 : Shape := ⟨2, ![512, 512]⟩
abbrev S1x256x512 : Shape := ⟨3, ![1, 256, 512]⟩
abbrev S256x512 : Shape := ⟨2, ![256, 512]⟩
abbrev S1x16x512 : Shape := ⟨3, ![1, 16, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x2, .i32⟩
  | .hbm, ⟨3, _⟩ => ⟨S2x256x512, .bf16⟩
  | .hbm, ⟨4, _⟩ => ⟨S16x512, .f32⟩
  | .local _ .vmem, ⟨0, _⟩ => ⟨S512x256, .bf16⟩
  | .local _ .vmem, ⟨1, _⟩ => ⟨S256x64, .bf16⟩
  | .local _ .vmem, ⟨2, _⟩ => ⟨S512x2, .i32⟩
  | .local _ .vmem, ⟨3, _⟩ => ⟨S2x256x512, .bf16⟩
  | .local _ .vmem, ⟨4, _⟩ => ⟨S16x512, .f32⟩
  | .local _ .vmem, ⟨5, _⟩ => ⟨S32x16x512, .bf16⟩
  | .local _ .vmem, ⟨6, _⟩ => ⟨S32x16x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v359 : Index := Scalar.indexCast v2
  let c0_220 : Index := 0#32
  let c0_221 : Index := 0#32
  ![v359.toNat, 0, 0]
def k0_off2 (d0 : Dev nD) (c1_i32_225 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v366 : BitVec 32 := Scalar.addi v2 c1_i32_225
  let c32_i32_226 : BitVec 32 := 32#32
  let v367 : BitVec 32 := Scalar.remsi v366 c32_i32_226
  ![v367.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_229 : BitVec 32 := 0#32
  let c0_i32_230 : BitVec 32 := 0#32
  ![v2.toNat, 0, 0]
def k0_off5 (d0 : Dev nD) (c1_i32_225 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v366 : BitVec 32 := Scalar.addi v2 c1_i32_225
  let c32_i32_226 : BitVec 32 := 32#32
  let v367 : BitVec 32 := Scalar.remsi v366 c32_i32_226
  let c0_i32_231 : BitVec 32 := 0#32
  let c0_i32_232 : BitVec 32 := 0#32
  ![v367.toNat, 0, 0]
def k0_dev32 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_225 : BitVec 32 := 1#32
  let v366 : BitVec 32 := Scalar.addi v2 c1_i32_225
  let c32_i32_226 : BitVec 32 := 32#32
  let v367 : BitVec 32 := Scalar.remsi v366 c32_i32_226
  let c1_i32_227 : BitVec 32 := 1#32
  let v368 : BitVec 32 := Scalar.muli v367 c1_i32_227
  let v369 : BitVec 32 := Scalar.addi c0_i32_228 v368
  v369.toNat
def k0_dev33 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_233 : BitVec 32 := 2#32
  let v378 : BitVec 32 := Scalar.addi v2 c2_i32_233
  let c32_i32_234 : BitVec 32 := 32#32
  let v379 : BitVec 32 := Scalar.remsi v378 c32_i32_234
  let c1_i32_235 : BitVec 32 := 1#32
  let v380 : BitVec 32 := Scalar.muli v379 c1_i32_235
  let v381 : BitVec 32 := Scalar.addi c0_i32_236 v380
  v381.toNat
def k0_dev34 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_241 : BitVec 32 := 3#32
  let v390 : BitVec 32 := Scalar.addi v2 c3_i32_241
  let c32_i32_242 : BitVec 32 := 32#32
  let v391 : BitVec 32 := Scalar.remsi v390 c32_i32_242
  let c1_i32_243 : BitVec 32 := 1#32
  let v392 : BitVec 32 := Scalar.muli v391 c1_i32_243
  let v393 : BitVec 32 := Scalar.addi c0_i32_244 v392
  v393.toNat
def k0_dev35 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_249 : BitVec 32 := 4#32
  let v402 : BitVec 32 := Scalar.addi v2 c4_i32_249
  let c32_i32_250 : BitVec 32 := 32#32
  let v403 : BitVec 32 := Scalar.remsi v402 c32_i32_250
  let c1_i32_251 : BitVec 32 := 1#32
  let v404 : BitVec 32 := Scalar.muli v403 c1_i32_251
  let v405 : BitVec 32 := Scalar.addi c0_i32_252 v404
  v405.toNat
def k0_dev36 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_257 : BitVec 32 := 5#32
  let v414 : BitVec 32 := Scalar.addi v2 c5_i32_257
  let c32_i32_258 : BitVec 32 := 32#32
  let v415 : BitVec 32 := Scalar.remsi v414 c32_i32_258
  let c1_i32_259 : BitVec 32 := 1#32
  let v416 : BitVec 32 := Scalar.muli v415 c1_i32_259
  let v417 : BitVec 32 := Scalar.addi c0_i32_260 v416
  v417.toNat
def k0_dev37 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_265 : BitVec 32 := 6#32
  let v426 : BitVec 32 := Scalar.addi v2 c6_i32_265
  let c32_i32_266 : BitVec 32 := 32#32
  let v427 : BitVec 32 := Scalar.remsi v426 c32_i32_266
  let c1_i32_267 : BitVec 32 := 1#32
  let v428 : BitVec 32 := Scalar.muli v427 c1_i32_267
  let v429 : BitVec 32 := Scalar.addi c0_i32_268 v428
  v429.toNat
def k0_dev38 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_273 : BitVec 32 := 7#32
  let v438 : BitVec 32 := Scalar.addi v2 c7_i32_273
  let c32_i32_274 : BitVec 32 := 32#32
  let v439 : BitVec 32 := Scalar.remsi v438 c32_i32_274
  let c1_i32_275 : BitVec 32 := 1#32
  let v440 : BitVec 32 := Scalar.muli v439 c1_i32_275
  let v441 : BitVec 32 := Scalar.addi c0_i32_276 v440
  v441.toNat
def k0_dev39 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_281 : BitVec 32 := 8#32
  let v450 : BitVec 32 := Scalar.addi v2 c8_i32_281
  let c32_i32_282 : BitVec 32 := 32#32
  let v451 : BitVec 32 := Scalar.remsi v450 c32_i32_282
  let c1_i32_283 : BitVec 32 := 1#32
  let v452 : BitVec 32 := Scalar.muli v451 c1_i32_283
  let v453 : BitVec 32 := Scalar.addi c0_i32_284 v452
  v453.toNat
def k0_dev40 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_289 : BitVec 32 := 9#32
  let v462 : BitVec 32 := Scalar.addi v2 c9_i32_289
  let c32_i32_290 : BitVec 32 := 32#32
  let v463 : BitVec 32 := Scalar.remsi v462 c32_i32_290
  let c1_i32_291 : BitVec 32 := 1#32
  let v464 : BitVec 32 := Scalar.muli v463 c1_i32_291
  let v465 : BitVec 32 := Scalar.addi c0_i32_292 v464
  v465.toNat
def k0_dev41 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_297 : BitVec 32 := 10#32
  let v474 : BitVec 32 := Scalar.addi v2 c10_i32_297
  let c32_i32_298 : BitVec 32 := 32#32
  let v475 : BitVec 32 := Scalar.remsi v474 c32_i32_298
  let c1_i32_299 : BitVec 32 := 1#32
  let v476 : BitVec 32 := Scalar.muli v475 c1_i32_299
  let v477 : BitVec 32 := Scalar.addi c0_i32_300 v476
  v477.toNat
def k0_dev42 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_305 : BitVec 32 := 11#32
  let v486 : BitVec 32 := Scalar.addi v2 c11_i32_305
  let c32_i32_306 : BitVec 32 := 32#32
  let v487 : BitVec 32 := Scalar.remsi v486 c32_i32_306
  let c1_i32_307 : BitVec 32 := 1#32
  let v488 : BitVec 32 := Scalar.muli v487 c1_i32_307
  let v489 : BitVec 32 := Scalar.addi c0_i32_308 v488
  v489.toNat
def k0_dev43 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_313 : BitVec 32 := 12#32
  let v498 : BitVec 32 := Scalar.addi v2 c12_i32_313
  let c32_i32_314 : BitVec 32 := 32#32
  let v499 : BitVec 32 := Scalar.remsi v498 c32_i32_314
  let c1_i32_315 : BitVec 32 := 1#32
  let v500 : BitVec 32 := Scalar.muli v499 c1_i32_315
  let v501 : BitVec 32 := Scalar.addi c0_i32_316 v500
  v501.toNat
def k0_dev44 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_321 : BitVec 32 := 13#32
  let v510 : BitVec 32 := Scalar.addi v2 c13_i32_321
  let c32_i32_322 : BitVec 32 := 32#32
  let v511 : BitVec 32 := Scalar.remsi v510 c32_i32_322
  let c1_i32_323 : BitVec 32 := 1#32
  let v512 : BitVec 32 := Scalar.muli v511 c1_i32_323
  let v513 : BitVec 32 := Scalar.addi c0_i32_324 v512
  v513.toNat
def k0_dev45 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_329 : BitVec 32 := 14#32
  let v522 : BitVec 32 := Scalar.addi v2 c14_i32_329
  let c32_i32_330 : BitVec 32 := 32#32
  let v523 : BitVec 32 := Scalar.remsi v522 c32_i32_330
  let c1_i32_331 : BitVec 32 := 1#32
  let v524 : BitVec 32 := Scalar.muli v523 c1_i32_331
  let v525 : BitVec 32 := Scalar.addi c0_i32_332 v524
  v525.toNat
def k0_dev46 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_337 : BitVec 32 := 15#32
  let v534 : BitVec 32 := Scalar.addi v2 c15_i32_337
  let c32_i32_338 : BitVec 32 := 32#32
  let v535 : BitVec 32 := Scalar.remsi v534 c32_i32_338
  let c1_i32_339 : BitVec 32 := 1#32
  let v536 : BitVec 32 := Scalar.muli v535 c1_i32_339
  let v537 : BitVec 32 := Scalar.addi c0_i32_340 v536
  v537.toNat
def k0_dev47 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_345 : BitVec 32 := 16#32
  let v546 : BitVec 32 := Scalar.addi v2 c16_i32_345
  let c32_i32_346 : BitVec 32 := 32#32
  let v547 : BitVec 32 := Scalar.remsi v546 c32_i32_346
  let c1_i32_347 : BitVec 32 := 1#32
  let v548 : BitVec 32 := Scalar.muli v547 c1_i32_347
  let v549 : BitVec 32 := Scalar.addi c0_i32_348 v548
  v549.toNat
def k0_dev48 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_353 : BitVec 32 := 17#32
  let v558 : BitVec 32 := Scalar.addi v2 c17_i32_353
  let c32_i32_354 : BitVec 32 := 32#32
  let v559 : BitVec 32 := Scalar.remsi v558 c32_i32_354
  let c1_i32_355 : BitVec 32 := 1#32
  let v560 : BitVec 32 := Scalar.muli v559 c1_i32_355
  let v561 : BitVec 32 := Scalar.addi c0_i32_356 v560
  v561.toNat
def k0_dev49 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_361 : BitVec 32 := 18#32
  let v570 : BitVec 32 := Scalar.addi v2 c18_i32_361
  let c32_i32_362 : BitVec 32 := 32#32
  let v571 : BitVec 32 := Scalar.remsi v570 c32_i32_362
  let c1_i32_363 : BitVec 32 := 1#32
  let v572 : BitVec 32 := Scalar.muli v571 c1_i32_363
  let v573 : BitVec 32 := Scalar.addi c0_i32_364 v572
  v573.toNat
def k0_dev50 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_369 : BitVec 32 := 19#32
  let v582 : BitVec 32 := Scalar.addi v2 c19_i32_369
  let c32_i32_370 : BitVec 32 := 32#32
  let v583 : BitVec 32 := Scalar.remsi v582 c32_i32_370
  let c1_i32_371 : BitVec 32 := 1#32
  let v584 : BitVec 32 := Scalar.muli v583 c1_i32_371
  let v585 : BitVec 32 := Scalar.addi c0_i32_372 v584
  v585.toNat
def k0_dev51 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_377 : BitVec 32 := 20#32
  let v594 : BitVec 32 := Scalar.addi v2 c20_i32_377
  let c32_i32_378 : BitVec 32 := 32#32
  let v595 : BitVec 32 := Scalar.remsi v594 c32_i32_378
  let c1_i32_379 : BitVec 32 := 1#32
  let v596 : BitVec 32 := Scalar.muli v595 c1_i32_379
  let v597 : BitVec 32 := Scalar.addi c0_i32_380 v596
  v597.toNat
def k0_dev52 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_385 : BitVec 32 := 21#32
  let v606 : BitVec 32 := Scalar.addi v2 c21_i32_385
  let c32_i32_386 : BitVec 32 := 32#32
  let v607 : BitVec 32 := Scalar.remsi v606 c32_i32_386
  let c1_i32_387 : BitVec 32 := 1#32
  let v608 : BitVec 32 := Scalar.muli v607 c1_i32_387
  let v609 : BitVec 32 := Scalar.addi c0_i32_388 v608
  v609.toNat
def k0_dev53 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_393 : BitVec 32 := 22#32
  let v618 : BitVec 32 := Scalar.addi v2 c22_i32_393
  let c32_i32_394 : BitVec 32 := 32#32
  let v619 : BitVec 32 := Scalar.remsi v618 c32_i32_394
  let c1_i32_395 : BitVec 32 := 1#32
  let v620 : BitVec 32 := Scalar.muli v619 c1_i32_395
  let v621 : BitVec 32 := Scalar.addi c0_i32_396 v620
  v621.toNat
def k0_dev54 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_401 : BitVec 32 := 23#32
  let v630 : BitVec 32 := Scalar.addi v2 c23_i32_401
  let c32_i32_402 : BitVec 32 := 32#32
  let v631 : BitVec 32 := Scalar.remsi v630 c32_i32_402
  let c1_i32_403 : BitVec 32 := 1#32
  let v632 : BitVec 32 := Scalar.muli v631 c1_i32_403
  let v633 : BitVec 32 := Scalar.addi c0_i32_404 v632
  v633.toNat
def k0_dev55 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_409 : BitVec 32 := 24#32
  let v642 : BitVec 32 := Scalar.addi v2 c24_i32_409
  let c32_i32_410 : BitVec 32 := 32#32
  let v643 : BitVec 32 := Scalar.remsi v642 c32_i32_410
  let c1_i32_411 : BitVec 32 := 1#32
  let v644 : BitVec 32 := Scalar.muli v643 c1_i32_411
  let v645 : BitVec 32 := Scalar.addi c0_i32_412 v644
  v645.toNat
def k0_dev56 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_417 : BitVec 32 := 25#32
  let v654 : BitVec 32 := Scalar.addi v2 c25_i32_417
  let c32_i32_418 : BitVec 32 := 32#32
  let v655 : BitVec 32 := Scalar.remsi v654 c32_i32_418
  let c1_i32_419 : BitVec 32 := 1#32
  let v656 : BitVec 32 := Scalar.muli v655 c1_i32_419
  let v657 : BitVec 32 := Scalar.addi c0_i32_420 v656
  v657.toNat
def k0_dev57 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_425 : BitVec 32 := 26#32
  let v666 : BitVec 32 := Scalar.addi v2 c26_i32_425
  let c32_i32_426 : BitVec 32 := 32#32
  let v667 : BitVec 32 := Scalar.remsi v666 c32_i32_426
  let c1_i32_427 : BitVec 32 := 1#32
  let v668 : BitVec 32 := Scalar.muli v667 c1_i32_427
  let v669 : BitVec 32 := Scalar.addi c0_i32_428 v668
  v669.toNat
def k0_dev58 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_433 : BitVec 32 := 27#32
  let v678 : BitVec 32 := Scalar.addi v2 c27_i32_433
  let c32_i32_434 : BitVec 32 := 32#32
  let v679 : BitVec 32 := Scalar.remsi v678 c32_i32_434
  let c1_i32_435 : BitVec 32 := 1#32
  let v680 : BitVec 32 := Scalar.muli v679 c1_i32_435
  let v681 : BitVec 32 := Scalar.addi c0_i32_436 v680
  v681.toNat
def k0_dev59 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_441 : BitVec 32 := 28#32
  let v690 : BitVec 32 := Scalar.addi v2 c28_i32_441
  let c32_i32_442 : BitVec 32 := 32#32
  let v691 : BitVec 32 := Scalar.remsi v690 c32_i32_442
  let c1_i32_443 : BitVec 32 := 1#32
  let v692 : BitVec 32 := Scalar.muli v691 c1_i32_443
  let v693 : BitVec 32 := Scalar.addi c0_i32_444 v692
  v693.toNat
def k0_dev60 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_449 : BitVec 32 := 29#32
  let v702 : BitVec 32 := Scalar.addi v2 c29_i32_449
  let c32_i32_450 : BitVec 32 := 32#32
  let v703 : BitVec 32 := Scalar.remsi v702 c32_i32_450
  let c1_i32_451 : BitVec 32 := 1#32
  let v704 : BitVec 32 := Scalar.muli v703 c1_i32_451
  let v705 : BitVec 32 := Scalar.addi c0_i32_452 v704
  v705.toNat
def k0_dev61 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_457 : BitVec 32 := 30#32
  let v714 : BitVec 32 := Scalar.addi v2 c30_i32_457
  let c32_i32_458 : BitVec 32 := 32#32
  let v715 : BitVec 32 := Scalar.remsi v714 c32_i32_458
  let c1_i32_459 : BitVec 32 := 1#32
  let v716 : BitVec 32 := Scalar.muli v715 c1_i32_459
  let v717 : BitVec 32 := Scalar.addi c0_i32_460 v716
  v717.toNat
def k0_dev62 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_465 : BitVec 32 := 31#32
  let v726 : BitVec 32 := Scalar.addi v2 c31_i32_465
  let c32_i32_466 : BitVec 32 := 32#32
  let v727 : BitVec 32 := Scalar.remsi v726 c32_i32_466
  let c1_i32_467 : BitVec 32 := 1#32
  let v728 : BitVec 32 := Scalar.muli v727 c1_i32_467
  let v729 : BitVec 32 := Scalar.addi c0_i32_468 v728
  v729.toNat
def k0_off6 (d0 : Dev nD) (c1_i32_473 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v738 : BitVec 32 := Scalar.subi v2 c1_i32_473
  let c32_i32_474 : BitVec 32 := 32#32
  let v739 : BitVec 32 := Scalar.addi v738 c32_i32_474
  let c32_i32_475 : BitVec 32 := 32#32
  let v740 : BitVec 32 := Scalar.remsi v739 c32_i32_475
  ![v740.toNat]
def k0_off7 (d0 : Dev nD) (c1_i32_473 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v738 : BitVec 32 := Scalar.subi v2 c1_i32_473
  let c32_i32_474 : BitVec 32 := 32#32
  let v739 : BitVec 32 := Scalar.addi v738 c32_i32_474
  let c32_i32_475 : BitVec 32 := 32#32
  let v740 : BitVec 32 := Scalar.remsi v739 c32_i32_475
  let c0_i32_478 : BitVec 32 := 0#32
  let c0_i32_479 : BitVec 32 := 0#32
  ![v740.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S512x64 : Shape := ⟨2, ![512, 64]⟩
abbrev S_ : Shape := ⟨0, ![]⟩
abbrev S512 : Shape := ⟨1, ![512]⟩
abbrev S512x1 : Shape := ⟨2, ![512, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S512x256x512 : Shape := ⟨3, ![512, 256, 512]⟩
abbrev S512x512 : Shape := ⟨2, ![512, 512]⟩

abbrev nBuf : Space → Nat
  | .hbm => 102
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x2, .i32⟩
  | .hbm, ⟨3, _⟩ => ⟨S64x256x512, .bf16⟩
  | .hbm, ⟨4, _⟩ => ⟨S512x256, .f32⟩
  | .hbm, ⟨5, _⟩ => ⟨S256x64, .f32⟩
  | .hbm, ⟨6, _⟩ => ⟨S512x64, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x64, .f32⟩
  | .hbm, ⟨11, _⟩ => ⟨S512x64, .f32⟩
  | .hbm, ⟨12, _⟩ => ⟨S512x64, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x64, .f32⟩
  | .hbm, ⟨17, _⟩ => ⟨S512x64, .f32⟩
  | .hbm, ⟨18, _⟩ => ⟨S512, .i32⟩
  | .hbm, ⟨19, _⟩ => ⟨S512x1, .i32⟩
  | .hbm, ⟨20, _⟩ => ⟨S512, .i32⟩
  | .hbm, ⟨21, _⟩ => ⟨S512x1, .i32⟩
  | .hbm, ⟨22, _⟩ => ⟨S512, .i32⟩
  | .hbm, ⟨23, _⟩ => ⟨S512x1, .i32⟩
  | .hbm, ⟨24, _⟩ => ⟨S512x1, .i32⟩
  | .hbm, ⟨25, _⟩ => ⟨S512x2, .i32⟩
  | .hbm, ⟨26, _⟩ => ⟨S2, .i32⟩
  | .hbm, ⟨27, _⟩ => ⟨S_, .i32⟩
  | .hbm, ⟨28, _⟩ => ⟨S512x2, .i32⟩
  | .hbm, ⟨29, _⟩ => ⟨S512x2, .i1⟩
  | .hbm, ⟨30, _⟩ => ⟨S1x2, .i32⟩
  | .hbm, ⟨31, _⟩ => ⟨S512x2, .i32⟩
  | .hbm, ⟨32, _⟩ => ⟨S512x2, .i1⟩
  | .hbm, ⟨33, _⟩ => ⟨S512x2, .i1⟩
  | .hbm, ⟨34, _⟩ => ⟨S_, .i1⟩
  | .hbm, ⟨35, _⟩ => ⟨S512, .i1⟩
  | .hbm, ⟨36, _⟩ => ⟨S512, .f32⟩
  | .hbm, ⟨37, _⟩ => ⟨S_, .f32⟩
  | .hbm, ⟨38, _⟩ => ⟨S512, .f32⟩
  | .hbm, ⟨39, _⟩ => ⟨S512, .f32⟩
  | .hbm, ⟨40, _⟩ => ⟨S512x1, .i32⟩
  | .hbm, ⟨41, _⟩ => ⟨S512x1, .i32⟩
  | .hbm, ⟨42, _⟩ => ⟨S512x2, .i32⟩
  | .hbm, ⟨43, _⟩ => ⟨S2, .i32⟩
  | .hbm, ⟨44, _⟩ => ⟨S_, .i32⟩
  | .hbm, ⟨45, _⟩ => ⟨S512x2, .i32⟩
  | .hbm, ⟨46, _⟩ => ⟨S512x2, .i1⟩
  | .hbm, ⟨47, _⟩ => ⟨S1x2, .i32⟩
  | .hbm, ⟨48, _⟩ => ⟨S512x2, .i32⟩
  | .hbm, ⟨49, _⟩ => ⟨S512x2, .i1⟩
  | .hbm, ⟨50, _⟩ => ⟨S512x2, .i1⟩
  | .hbm, ⟨51, _⟩ => ⟨S_, .i1⟩
  | .hbm, ⟨52, _⟩ => ⟨S512, .i1⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S64x256x512, .f32⟩
  | .hbm, ⟨59, _⟩ => ⟨S512x1, .i32⟩
  | .hbm, ⟨60, _⟩ => ⟨S1, .i32⟩
  | .hbm, ⟨61, _⟩ => ⟨S_, .i32⟩
  | .hbm, ⟨62, _⟩ => ⟨S512x1, .i32⟩
  | .hbm, ⟨63, _⟩ => ⟨S512x1, .i1⟩
  | .hbm, ⟨64, _⟩ => ⟨S1x1, .i32⟩
  | .hbm, ⟨65, _⟩ => ⟨S512x1, .i32⟩
  | .hbm, ⟨66, _⟩ => ⟨S512x1, .i1⟩
  | .hbm, ⟨67, _⟩ => ⟨S512x1, .i1⟩
  | .hbm, ⟨68, _⟩ => ⟨S_, .i1⟩
  | .hbm, ⟨69, _⟩ => ⟨S512, .i1⟩
  | .hbm, ⟨70, _⟩ => ⟨S512x256x512, .f32⟩
  | .hbm, ⟨71, _⟩ => ⟨S512x256x512, .i1⟩
  | .hbm, ⟨72, _⟩ => ⟨S_, .f32⟩
  | .hbm, ⟨73, _⟩ => ⟨S512x256x512, .f32⟩
  | .hbm, ⟨74, _⟩ => ⟨S512x256x512, .f32⟩
  | .hbm, ⟨75, _⟩ => ⟨S512x1, .i32⟩
  | .hbm, ⟨76, _⟩ => ⟨S1, .i32⟩
  | .hbm, ⟨77, _⟩ => ⟨S_, .i32⟩
  | .hbm, ⟨78, _⟩ => ⟨S512x1, .i32⟩
  | .hbm, ⟨79, _⟩ => ⟨S512x1, .i1⟩
  | .hbm, ⟨80, _⟩ => ⟨S1x1, .i32⟩
  | .hbm, ⟨81, _⟩ => ⟨S512x1, .i32⟩
  | .hbm, ⟨82, _⟩ => ⟨S512x1, .i1⟩
  | .hbm, ⟨83, _⟩ => ⟨S512x1, .i1⟩
  | .hbm, ⟨84, _⟩ => ⟨S_, .i1⟩
  | .hbm, ⟨85, _⟩ => ⟨S512, .i1⟩
  | .hbm, ⟨86, _⟩ => ⟨S512x256x512, .f32⟩
  | .hbm, ⟨87, _⟩ => ⟨S512x256x512, .i1⟩
  | .hbm, ⟨88, _⟩ => ⟨S_, .f32⟩
  | .hbm, ⟨89, _⟩ => ⟨S512x256x512, .f32⟩
  | .hbm, ⟨90, _⟩ => ⟨S512x256x512, .f32⟩
  | .hbm, ⟨91, _⟩ => ⟨S512x512, .f32⟩
  | .hbm, ⟨92, _⟩ => ⟨S512x512, .f32⟩
  | .hbm, ⟨93, _⟩ => ⟨S512, .f32⟩
  | .hbm, ⟨94, _⟩ => ⟨S512x1, .f32⟩
  | .hbm, ⟨95, _⟩ => ⟨S512x512, .f32⟩
  | .hbm, ⟨96, _⟩ => ⟨S512x512, .f32⟩
  | .hbm, ⟨97, _⟩ => ⟨S512, .f32⟩
  | .hbm, ⟨98, _⟩ => ⟨S512x1, .f32⟩
  | .hbm, ⟨99, _⟩ => ⟨S512x512, .f32⟩
  | .hbm, ⟨100, _⟩ => ⟨S512x512, .f32⟩
  | .hbm, ⟨101, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_12 : Ref sig .tc := ⟨.hbm, 76, rfl⟩
abbrev main_c_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Proof.Proof.Sched.lean ====
/-
# The exchange: cells, contents and schedule

Thirty-two devices. Each device `c` computes one contribution per device and keeps it in slot `d` of its sending
buffer; it then writes that slot into slot `c` of device `d`'s receiving buffer. Before any transfer every device tells
every other one, by one unit on the other's barrier semaphore, that its receiving buffer may be written, and waits for
the thirty-one units of the others.

The protocol in rounds, one round per semaphore, a duty named by the device that pays it:
  • the barrier cell of `c` has a duty for every device `d ≠ c`, one unit; with it `d` hands over slot `c` of its own
    receiving buffer;
  • the receive cell `s ≠ c` of `c` has the duty of `s`, a slot's credit, with slot `s` of `c`'s receiving buffer
    holding what `s` sent to `c`;
  • the send cell `d ≠ c` of `c` has the duty of `c`, a slot's credit, with slot `d` of `c`'s sending buffer back.
The receive and the send cell a device has for itself are never used.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## The resource algebra: the pipeline library's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Distances around the mesh -/

/-- How far `b` lies after `a`, going round. -/
def gap (a b : Dev nD) : ℕ := (b.val + 32 - a.val) % 32

/-- The device `k` places after `c`. -/
def after (c : Dev nD) (k : ℕ) : Dev nD := ⟨(c.val + k) % 32, Nat.mod_lt _ (by decide)⟩
/-- The device `k` places before `c`. -/
def before (c : Dev nD) (k : ℕ) : Dev nD := ⟨(c.val + 32 - k) % 32, Nat.mod_lt _ (by decide)⟩

theorem gap_lt (a b : Dev nD) : gap a b < 32 := Nat.mod_lt _ (by decide)
theorem gap_self (a : Dev nD) : gap a a = 0 := by unfold gap; omega
theorem gap_eq_zero {a b : Dev nD} (h : gap a b = 0) : a = b := by
  have ha : a.val < 32 := a.isLt
  have hb : b.val < 32 := b.isLt
  unfold gap at h; apply Fin.ext; omega
theorem gap_after (c : Dev nD) {k : ℕ} (hk : k < 32) : gap c (after c k) = k := by
  have hc : c.val < 32 := c.isLt
  unfold gap after; dsimp only; omega
theorem gap_before (c : Dev nD) {k : ℕ} (hk : k < 32) : gap (before c k) c = k := by
  have hc : c.val < 32 := c.isLt
  unfold gap before; dsimp only; omega
theorem gap_right_inj (a : Dev nD) {x y : Dev nD} (h : gap a x = gap a y) : x = y := by
  have ha : a.val < 32 := a.isLt
  have hx : x.val < 32 := x.isLt
  have hy : y.val < 32 := y.isLt
  unfold gap at h; apply Fin.ext; omega
theorem gap_left_inj (a : Dev nD) {x y : Dev nD} (h : gap x a = gap y a) : x = y := by
  have ha : a.val < 32 := a.isLt
  have hx : x.val < 32 := x.isLt
  have hy : y.val < 32 := y.isLt
  unfold gap at h; apply Fin.ext; omega

/-! ## Working through the devices by distance -/

/-- The devices at distance `k` or more: those still to come. -/
def todo (o : Dev nD → ℕ) (k : ℕ) : Finset (Dev nD) := Finset.univ.filter fun d => k ≤ o d
/-- The devices nearer than `k`: those done. -/
def seen (o : Dev nD → ℕ) (k : ℕ) : Finset (Dev nD) := Finset.univ.filter fun d => o d < k

theorem todo_peel {o : Dev nD → ℕ} (ho : ∀ x y, o x = o y → x = y) {d : Dev nD} {k : ℕ} (hd : o d = k) :
    todo o k = insert d (todo o (k + 1)) := by
  ext x; simp only [todo, Finset.mem_filter, Finset.mem_univ, true_and, Finset.mem_insert]
  constructor
  · intro h
    by_cases hx : x = d
    · exact Or.inl hx
    · exact Or.inr (by have : o x ≠ o d := fun h' => hx (ho _ _ h'); omega)
  · rintro (rfl | h) <;> omega
theorem not_mem_todo {o : Dev nD → ℕ} {d : Dev nD} {k : ℕ} (hd : o d = k) : d ∉ todo o (k + 1) := by
  simp only [todo, Finset.mem_filter, Finset.mem_univ, true_and]; omega
theorem seen_grow {o : Dev nD → ℕ} (ho : ∀ x y, o x = o y → x = y) {d : Dev nD} {k : ℕ} (hd : o d = k) :
    seen o (k + 1) = insert d (seen o k) := by
  ext x; simp only [seen, Finset.mem_filter, Finset.mem_univ, true_and, Finset.mem_insert]
  constructor
  · intro h
    by_cases hx : x = d
    · exact Or.inl hx
    · exact Or.inr (by have : o x ≠ o d := fun h' => hx (ho _ _ h'); omega)
  · rintro (rfl | h) <;> omega
theorem not_mem_seen {o : Dev nD → ℕ} {d : Dev nD} {k : ℕ} (hd : o d = k) : d ∉ seen o k := by
  simp only [seen, Finset.mem_filter, Finset.mem_univ, true_and]; omega
theorem todo_all {o : Dev nD → ℕ} (ho : ∀ x, o x < 32) : todo o 32 = ∅ := by
  ext x; have := ho x; simp only [todo, Finset.mem_filter, Finset.mem_univ, true_and, Finset.notMem_empty, iff_false]; omega
theorem seen_all {o : Dev nD → ℕ} (ho : ∀ x, o x < 32) : seen o 32 = Finset.univ := by
  ext x; have := ho x; simp only [seen, Finset.mem_filter, Finset.mem_univ, true_and, iff_true]; omega
theorem todo_one {o : Dev nD → ℕ} (ho : ∀ x y, o x = o y → x = y) {c : Dev nD} (hc : o c = 0) : todo o 1 = Finset.univ.erase c := by
  ext x; simp only [todo, Finset.mem_filter, Finset.mem_univ, true_and, Finset.mem_erase, and_true]
  constructor
  · rintro h rfl; omega
  · intro h; have : o x ≠ o c := fun h' => h (ho _ _ h'); omega
theorem seen_one {o : Dev nD → ℕ} (ho : ∀ x y, o x = o y → x = y) {c : Dev nD} (hc : o c = 0) : seen o 1 = {c} := by
  ext x; simp only [seen, Finset.mem_filter, Finset.mem_univ, true_and, Finset.mem_singleton]
  constructor
  · intro h; exact ho _ _ (by omega)
  · rintro rfl; omega

/-! ## The memrefs and cells -/

abbrev xM : Memref sig .tc .vmem S512x256 .bf16 := Memref.whole cc0_stg0_0
abbrev wM : Memref sig .tc .vmem S256x64 .bf16 := Memref.whole cc0_stg1_0
abbrev iM : Memref sig .tc .vmem S512x2 .i32 := Memref.whole cc0_stg2_0
abbrev eM : Memref sig .tc .vmem S2x256x512 .bf16 := Memref.whole cc0_stg3_0
abbrev oM : Memref sig .tc .vmem S16x512 .f32 := Memref.whole cc0_stg4_0
abbrev sM : Memref sig .tc .vmem S32x16x512 .bf16 := Memref.whole cc0_scratch0
abbrev rM : Memref sig .tc .vmem S32x16x512 .bf16 := Memref.whole cc0_scratch1

/-- The barrier semaphore, not scoped to the launch. -/
abbrev barS : Sem sig := (SemArray.scalar (sig.barrier 0 rfl) : Sems sig S_).sem
/-- The send semaphore towards device `d`. -/
def sendS (d : Dev nD) : DmaSem sig := ⟨5 + d.val, by have : d.val < 32 := d.isLt; show 5 + d.val < 69; omega⟩
/-- The receive semaphore for what device `s` sends. -/
def recvS (s : Dev nD) : DmaSem sig := ⟨37 + s.val, by have : s.val < 32 := s.isLt; show 37 + s.val < 69; omega⟩

abbrev barCell (c : Dev nD) : GSem nD τ sig := ((c : Thread nD τ), .reg barS)
abbrev sendCell (c d : Dev nD) : GSem nD τ sig := ((c : Thread nD τ), .dma (sendS d))
abbrev recvCell (c s : Dev nD) : GSem nD τ sig := ((c : Thread nD τ), .dma (recvS s))

/-- The kernel's own semaphores: the send ones, then the receive ones. -/
def osem (k : Fin 64) : SemLoc sig := .dma ⟨5 + k.val, by have := k.isLt; show 5 + k.val < 69; omega⟩
/-- All the semaphores of the exchange: the barrier and those. -/
def csem : Option (Fin 64) → SemLoc sig
  | none => .reg barS
  | some k => osem k
abbrev kcell (ck : Dev nD × Option (Fin 64)) : GSem nD τ sig := ((ck.1 : Thread nD τ), csem ck.2)

def kSend (d : Dev nD) : Fin 64 := ⟨d.val, by have : d.val < 32 := d.isLt; omega⟩
def kRecv (s : Dev nD) : Fin 64 := ⟨32 + s.val, by have : s.val < 32 := s.isLt; omega⟩

theorem kcell_none (c : Dev nD) : kcell (c, none) = barCell c := rfl
theorem kcell_send (c d : Dev nD) : kcell (c, some (kSend d)) = sendCell c d := rfl
theorem kcell_recv (c s : Dev nD) : kcell (c, some (kRecv s)) = recvCell c s :=
  Prod.ext rfl (congrArg SemLoc.dma (Fin.ext (by show 5 + (32 + s.val) = 37 + s.val; omega)))

/-! ## Slots -/

theorem slot_inb (s : Dev nD) : ∀ a, (![s.val, 0, 0] : Fin 3 → ℕ) a + S1x16x512.size a ≤ S32x16x512.size a := by
  have hs : s.val < 32 := s.isLt
  intro a
  match a with
  | ⟨0, _⟩ => show s.val + 1 ≤ 32; omega
  | ⟨1, _⟩ => show 0 + 16 ≤ 16; omega
  | ⟨2, _⟩ => show 0 + 512 ≤ 512; omega

abbrev slotRect (s : Dev nD) : Rect S32x16x512 := Rect.unit (s := S32x16x512) ![s.val, 0, 0] S1x16x512.size (slot_inb s)
/-- Slot `s` of a buffer of thirty-two blocks. -/
abbrev slotMem (M : Memref sig .tc .vmem S32x16x512 .bf16) (s : Dev nD) : Memref sig .tc .vmem S16x512 .bf16 :=
  (M.slice (slotRect s) (fun _ => rfl)).squeeze S16x512 squeezes_S1x16x512_S16x512

/-- Its elements. -/
def slotSet (s : Dev nD) : Finset S32x16x512.Idx := Finset.univ.filter fun i => (i 0).val = s.val

theorem mem_slotSet {s : Dev nD} {i : S32x16x512.Idx} : i ∈ slotSet s ↔ (i 0).val = s.val := by
  unfold slotSet; rw [Finset.mem_filter]; exact and_iff_right (Finset.mem_univ _)

theorem slotRect_set (s : Dev nD) : (slotRect s).set = slotSet s := by
  ext i
  rw [mem_slotSet, Rect.mem_set_unit]
  constructor
  · intro h
    have h0 := h 0
    have h1 : s.val ≤ (i 0).val := h0.1
    have h2 : (i 0).val < s.val + 1 := h0.2
    omega
  · intro h a
    match a with
    | ⟨0, _⟩ => exact ⟨le_of_eq h.symm, by show (i 0).val < s.val + 1; omega⟩
    | ⟨1, _⟩ => exact ⟨Nat.zero_le _, by show (i 1).val < 0 + 16; have : (i 1).val < 16 := (i 1).isLt; omega⟩
    | ⟨2, _⟩ => exact ⟨Nat.zero_le _, by show (i 2).val < 0 + 512; have : (i 2).val < 512 := (i 2).isLt; omega⟩

theorem slots_disjoint : ∀ t ∈ (Finset.univ : Finset (Dev nD)), ∀ t' ∈ (Finset.univ : Finset (Dev nD)), t ≠ t' → Disjoint (slotSet t) (slotSet t') := by
  intro t _ t' _ h
  rw [Finset.disjoint_left]
  intro i hi hi'
  rw [mem_slotSet] at hi hi'
  exact h (Fin.ext (hi.symm.trans hi'))
theorem slots_all : (Finset.univ : Finset (Dev nD)).biUnion slotSet = Finset.univ := by
  ext i
  rw [Finset.mem_biUnion]
  exact ⟨fun _ => Finset.mem_univ _, fun _ => ⟨⟨(i 0).val, (i 0).isLt⟩, Finset.mem_univ _, mem_slotSet.mpr rfl⟩⟩

/-- What a buffer of thirty-two blocks holds. -/
abbrev Blocks (F : FTy → Type) : Type := S32x16x512.Idx → Elt F .bf16

/-- The elements of slot `s` of device `c`'s sending buffer, holding `f`. -/
def sPts (c s : Dev nD) (f : Blocks F) : sProp 𝕄 :=
  ((c : Thread nD τ).loc cc0_scratch0) ↦[slotSet s]{fullShare} f
/-- The elements of slot `s` of device `c`'s receiving buffer, holding `f`. -/
def rPts (c s : Dev nD) (f : Blocks F) : sProp 𝕄 :=
  ((c : Thread nD τ).loc cc0_scratch1) ↦[slotSet s]{fullShare} f

omit [FloatOps F] in
instance sPts_storable (c s : Dev nD) (f : Blocks F) : BI.Storable (upEmb : UEmb _ 𝕄) (sPts (F := F) c s f) := by unfold sPts; infer_instance
omit [FloatOps F] in
instance rPts_storable (c s : Dev nD) (f : Blocks F) : BI.Storable (upEmb : UEmb _ 𝕄) (rPts (F := F) c s f) := by unfold rPts; infer_instance

omit [FloatOps F] in
theorem sPts_whole (c : Dev nD) (f : Blocks F) :
    (((c : Thread nD τ).loc cc0_scratch0) ↦{fullShare} f : sProp 𝕄) = bigSep Finset.univ fun s => sPts c s f := by
  unfold sPts
  rw [← pointsTo_biUnion (ℓ := (c : Thread nD τ).loc cc0_scratch0) Finset.univ slotSet slots_disjoint, slots_all]
omit [FloatOps F] in
theorem rPts_whole (c : Dev nD) (f : Blocks F) :
    (((c : Thread nD τ).loc cc0_scratch1) ↦{fullShare} f : sProp 𝕄) = bigSep Finset.univ fun s => rPts c s f := by
  unfold rPts
  rw [← pointsTo_biUnion (ℓ := (c : Thread nD τ).loc cc0_scratch1) Finset.univ slotSet slots_disjoint, slots_all]

omit [FloatOps F] in
theorem sPts_congr {c s : Dev nD} {f g : Blocks F} (h : ∀ i ∈ slotSet s, f i = g i) : (sPts c s f : sProp 𝕄) = sPts c s g :=
  pointsTo_congr h
omit [FloatOps F] in
theorem rPts_congr {c s : Dev nD} {f g : Blocks F} (h : ∀ i ∈ slotSet s, f i = g i) : (rPts c s f : sProp 𝕄) = rPts c s g :=
  pointsTo_congr h

/-! ## Contents: from what every device has in its sending buffer, what each has received at the end -/

/-- What lies in device `c`'s receiving buffer when every transfer has landed: in slot `s`, slot `c` of `s`'s sending
    buffer. -/
def received (snd : Dev nD → Blocks F) (c : Dev nD) : Blocks F :=
  fun i => snd ⟨(i 0).val, (i 0).isLt⟩ (ix3 (⟨c.val, c.isLt⟩ : Fin 32) (⟨(i 1).val, (i 1).isLt⟩ : Fin 16) (⟨(i 2).val, (i 2).isLt⟩ : Fin 512))

variable (snd : Dev nD → Blocks F)

/-! ## The schedule -/

/-- The credit of a slot's transfer. -/
def N : ℕ := (slotMem rM 0).view.dmaCredit
theorem N_pos : 0 < N := View.dmaCredit_pos _ (by decide)

/-- Which device a send or receive semaphore is about. -/
def peer (q : DmaSem sig) : Dev nD := ⟨(q.val - 5) % 32, Nat.mod_lt _ (by decide)⟩

theorem peer_send (d : Dev nD) : peer (sendS d) = d := by
  have : d.val < 32 := d.isLt
  unfold peer sendS; apply Fin.ext; dsimp only; omega
theorem peer_recv (d : Dev nD) : peer (recvS d) = d := by
  have : d.val < 32 := d.isLt
  unfold peer recvS; apply Fin.ext; dsimp only; omega

/-- The duties of a cell. -/
def dutiesOf (g : GSem nD τ sig) : Finset (Dev nD) := match g.2 with
  | .reg s => if s = barS then Finset.univ.erase g.1.1 else ∅
  | .dma q => if peer q = g.1.1 then ∅ else if 37 ≤ q.val then {peer q} else if 5 ≤ q.val then {g.1.1} else ∅

def sched : Rounds.Schedule (GSem nD τ sig) (Dev nD) 𝕄 where
  duties g r := if r = 0 ∧ g.1.2 = .tc then dutiesOf g else ∅
  unitless _ := False
  amount g _ _ := match g.2 with
    | .reg _ => 1
    | .dma _ => N
  payload g _ d := match g.2 with
    | .reg _ => iprop(∃ f, rPts d g.1.1 f)
    | .dma q => if 37 ≤ q.val then rPts g.1.1 (peer q) (received snd g.1.1) else sPts g.1.1 (peer q) (snd g.1.1)
  amount_pos g _ _ _ := by
    rcases g with ⟨_, s | q⟩
    · exact Nat.one_pos
    · exact N_pos

omit [FloatOps F] in
instance sched_payload_storable (g : GSem nD τ sig) (r : ℕ) (d : Dev nD) :
    BI.Storable (upEmb : UEmb _ 𝕄) ((sched (F := F) snd).payload g r d) := by
  rcases g with ⟨t, s | q⟩
  · show BI.Storable upEmb iprop(∃ f, rPts d t.1 f); infer_instance
  · show BI.Storable upEmb (if 37 ≤ q.val then rPts t.1 (peer q) (received snd t.1) else sPts t.1 (peer q) (snd t.1))
    split <;> infer_instance

section Sched
variable (c : Dev nD)

omit [FloatOps F] in
theorem duties_bar : (sched (F := F) snd).duties (barCell c) 0 = Finset.univ.erase c := by
  dsimp only [sched]; rw [if_pos ⟨rfl, rfl⟩]; dsimp only [dutiesOf]; rw [if_pos rfl]
omit [FloatOps F] in
theorem duties_send {d : Dev nD} (h : d ≠ c) : (sched (F := F) snd).duties (sendCell c d) 0 = {c} := by
  have hd : d.val < 32 := d.isLt
  dsimp only [sched]; rw [if_pos ⟨rfl, rfl⟩]; dsimp only [dutiesOf]; rw [peer_send, if_neg h, if_neg (by unfold sendS; dsimp only; omega), if_pos (by unfold sendS; dsimp only; omega)]
omit [FloatOps F] in
theorem duties_recv {s : Dev nD} (h : s ≠ c) : (sched (F := F) snd).duties (recvCell c s) 0 = {s} := by
  dsimp only [sched]; rw [if_pos ⟨rfl, rfl⟩]; dsimp only [dutiesOf]; rw [peer_recv, if_neg h, if_pos (by unfold recvS; dsimp only; omega)]
omit [FloatOps F] in
theorem duties_send_self : (sched (F := F) snd).duties (sendCell c c) 0 = ∅ := by
  dsimp only [sched]; rw [if_pos ⟨rfl, rfl⟩]; dsimp only [dutiesOf]; rw [peer_send, if_pos rfl]
omit [FloatOps F] in
theorem duties_recv_self : (sched (F := F) snd).duties (recvCell c c) 0 = ∅ := by
  dsimp only [sched]; rw [if_pos ⟨rfl, rfl⟩]; dsimp only [dutiesOf]; rw [peer_recv, if_pos rfl]
omit [FloatOps F] in
theorem duties_later (g : GSem nD τ sig) : ∀ r, 1 ≤ r → (sched (F := F) snd).duties g r = ∅ :=
  fun r hr => by dsimp only [sched]; rw [if_neg fun h => by omega]

omit [FloatOps F] in
theorem amount_bar (d : Dev nD) : (sched (F := F) snd).amount (barCell c) 0 d = 1 := rfl
omit [FloatOps F] in
theorem amount_send (d e : Dev nD) : (sched (F := F) snd).amount (sendCell c d) 0 e = N := rfl
omit [FloatOps F] in
theorem amount_recv (d e : Dev nD) : (sched (F := F) snd).amount (recvCell c d) 0 e = N := rfl

omit [FloatOps F] in
theorem expect_bar : (sched (F := F) snd).expect (barCell c) 0 = 31 := by
  unfold Schedule.expect Schedule.amountOf
  rw [duties_bar, Finset.sum_congr rfl fun d _ => amount_bar snd c d, Finset.sum_const, Finset.card_erase_of_mem (Finset.mem_univ _), Finset.card_univ,
    Fintype.card_fin, smul_eq_mul]; rfl
omit [FloatOps F] in
theorem expect_send {d : Dev nD} (h : d ≠ c) : (sched (F := F) snd).expect (sendCell c d) 0 = N := by
  unfold Schedule.expect Schedule.amountOf; rw [duties_send snd c h, Finset.sum_singleton, amount_send]
omit [FloatOps F] in
theorem expect_recv {d : Dev nD} (h : d ≠ c) : (sched (F := F) snd).expect (recvCell c d) 0 = N := by
  unfold Schedule.expect Schedule.amountOf; rw [duties_recv snd c h, Finset.sum_singleton, amount_recv]

omit [FloatOps F] in
theorem payload_bar (d : Dev nD) : (sched (F := F) snd).payload (barCell c) 0 d = iprop(∃ f, rPts d c f) := rfl
omit [FloatOps F] in
theorem payload_send (d e : Dev nD) : (sched (F := F) snd).payload (sendCell c d) 0 e = sPts c d (snd c) := by
  have hd : d.val < 32 := d.isLt
  dsimp only [sched]; rw [if_neg (by unfold sendS; dsimp only; omega), peer_send]
omit [FloatOps F] in
theorem payload_recv (s e : Dev nD) : (sched (F := F) snd).payload (recvCell c s) 0 e = rPts c s (received snd c) := by
  dsimp only [sched]; rw [if_pos (by unfold recvS; dsimp only; omega), peer_recv]

omit [FloatOps F] in
theorem rest_bar : bigSep ((sched (F := F) snd).duties (barCell c) 0 \ ∅) (fun d => (sched (F := F) snd).payload (barCell c) 0 d)
    = bigSep (Finset.univ.erase c) fun d => iprop(∃ f, rPts d c f) := by
  rw [Finset.sdiff_empty, duties_bar]; rfl
omit [FloatOps F] in
theorem rest_send {d : Dev nD} (h : d ≠ c) :
    bigSep ((sched (F := F) snd).duties (sendCell c d) 0 \ ∅) (fun e => (sched (F := F) snd).payload (sendCell c d) 0 e) = sPts c d (snd c) := by
  rw [Finset.sdiff_empty, duties_send snd c h, bigSep_singleton, payload_send]
omit [FloatOps F] in
theorem rest_recv {s : Dev nD} (h : s ≠ c) :
    bigSep ((sched (F := F) snd).duties (recvCell c s) 0 \ ∅) (fun e => (sched (F := F) snd).payload (recvCell c s) 0 e) = rPts c s (received snd c) := by
  rw [Finset.sdiff_empty, duties_recv snd c h, bigSep_singleton, payload_recv]

end Sched

/-! ## What each core owes at launch; the levels -/

/-- What device `c` owes the receive cells of the devices at distance `k` or more. -/
def owedRecv (c : Dev nD) (k : ℕ) : CellTallies nD τ sig Unit := ∑ d ∈ todo (gap c) k, tallyAt (recvCell d c) () N
/-- What device `c` owes the barrier cells of the devices at distance `k` or more. -/
def owedBar (c : Dev nD) (k : ℕ) : CellTallies nD τ sig Unit := ∑ d ∈ todo (gap c) k, tallyAt (barCell d) () 1

theorem owedRecv_peel (c : Dev nD) {k : ℕ} (hk : k < 32) : owedRecv c k = owedRecv c (k + 1) + tallyAt (recvCell (after c k) c) () N := by
  unfold owedRecv
  rw [todo_peel (fun _ _ => gap_right_inj c) (gap_after c hk), Finset.sum_insert (not_mem_todo (gap_after c hk)), add_comm]
theorem owedBar_peel (c : Dev nD) {k : ℕ} (hk : k < 32) : owedBar c k = owedBar c (k + 1) + tallyAt (barCell (after c k)) () 1 := by
  unfold owedBar
  rw [todo_peel (fun _ _ => gap_right_inj c) (gap_after c hk), Finset.sum_insert (not_mem_todo (gap_after c hk)), add_comm]
theorem owedRecv_done (c : Dev nD) : owedRecv c 32 = 0 := by unfold owedRecv; rw [todo_all (gap_lt c), Finset.sum_empty]
theorem owedBar_done (c : Dev nD) : owedBar c 32 = 0 := by unfold owedBar; rw [todo_all (gap_lt c), Finset.sum_empty]

/-- A device owes at launch every other device's receive cell a slot's credit and its barrier cell one unit. -/
def O₀ (c : Dev nD) : CellTallies nD τ sig Unit := owedRecv c 1 + owedBar c 1

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 37 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) : lv (recvCell c s) () = 2 := by
  dsimp only [lv]; rw [if_pos (by unfold recvS; dsimp only; omega)]
theorem lv_bar (c : Dev nD) : lv (barCell c) () = 1 := rfl

theorem pos_of_sum_tallies {ι : Type} [DecidableEq ι] {S : Finset ι} {T : ι → CellTallies nD τ sig Unit} {g : GSem nD τ sig} {u : Unit}
    (h : 0 < (∑ i ∈ S, T i) g u) : ∃ i ∈ S, 0 < T i g u := by
  induction S using Finset.induction_on with
  | empty => rw [Finset.sum_empty] at h; exact absurd h (Nat.lt_irrefl 0)
  | insert i S hi ih =>
    rw [Finset.sum_insert hi, Pi.add_apply, Finsupp.add_apply] at h
    rcases Nat.eq_zero_or_pos (T i g u) with h0 | h0
    · rw [h0, Nat.zero_add] at h
      obtain ⟨j, hj, hp⟩ := ih h
      exact ⟨j, Finset.mem_insert_of_mem hj, hp⟩
    · exact ⟨i, Finset.mem_insert_self _ _, h0⟩

theorem eq_of_tallyAt_pos {g' g : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem owedRecv_pos {c : Dev nD} {k : ℕ} {g : GSem nD τ sig} {u : Unit} (h : 0 < owedRecv c k g u) : ∃ d, g = recvCell d c := by
  obtain ⟨d, _, hd⟩ := pos_of_sum_tallies h
  exact ⟨d, eq_of_tallyAt_pos hd⟩
theorem owedBar_pos {c : Dev nD} {k : ℕ} {g : GSem nD τ sig} {u : Unit} (h : 0 < owedBar c k g u) : ∃ d, g = barCell d := by
  obtain ⟨d, _, hd⟩ := pos_of_sum_tallies h
  exact ⟨d, eq_of_tallyAt_pos hd⟩
theorem O₀_pos {c : Dev nD} {g : GSem nD τ sig} {u : Unit} (h : 0 < O₀ c g u) : (∃ d, g = recvCell d c) ∨ ∃ d, g = barCell d := by
  unfold O₀ at h
  rw [Pi.add_apply, Finsupp.add_apply] at h
  rcases Nat.eq_zero_or_pos (owedRecv c 1 g u) with h0 | h0
  · rw [h0, Nat.zero_add] at h; exact Or.inr (owedBar_pos h)
  · exact Or.inl (owedRecv_pos h0)

omit [FloatOps F] in
theorem mayWait_stage (c : Dev nD) (q : DmaSem sig) (hq : q.val < 37) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; dsimp only [lv]; rw [if_neg (by omega)])
      (fun g u hg => by
        rcases O₀_pos hg with ⟨d, rfl⟩ | ⟨d, rfl⟩
        · rw [show lv (recvCell d c) u = 2 from lv_recv d c]; decide
        · rw [show lv (barCell d) u = 1 from rfl]; decide)
  · rw [MayWait_zero]; iintro -; iempintro

omit [FloatOps F] in
/-- At its barrier wait a device owes receive credit only, and receive cells lie above barrier cells. -/
theorem mayWait_bar (c : Dev nD) : (levAts L lv : sProp 𝕄) ⊢ MayWait (c : Thread nD τ) (.reg barS) () (owedRecv c 1) :=
  MayOwe.of_cut (L := L) (lev := lv) 1 (fun p hp => by rw [Finset.mem_singleton.mp hp, L_tc]; exact Finset.mem_singleton_self _)
    (fun g u hg => by obtain ⟨d, rfl⟩ := owedRecv_pos hg; exact Finset.mem_singleton_self _)
    (fun p hp => by rw [Finset.mem_singleton.mp hp]; exact le_refl 1)
    (fun g u hg => by
      obtain ⟨d, rfl⟩ := owedRecv_pos hg
      rw [show lv (recvCell d c) u = 2 from lv_recv d c]; decide)

end Cert.MoE

end
-- ==== Proof.Proof.Steps.lean ====
/-
# The exchange: one rule for each kind of operation

What a device holds in each phase of the exchange, as one resource indexed by how far the phase has come, and for
each kind of operation the step from one index to the next: a signal, a store of a slot, a transfer, a wait for what
another device sent, a wait for a transfer of one's own.
-/
module

public import proofs.«01_k».proof.Proof.Proof.Sched

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

abbrev 𝒱₀ : Variants := Variants.none

/-- The weakest precondition of a program of device `c`'s core. -/
@[irreducible] def WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem WP_bind {α β : Type} (c : Dev nD) (p : Prog (TpuEff nD τ sig (Elt F) Λ₀ .tc) α) (k : α → Prog (TpuEff nD τ sig (Elt F) Λ₀ .tc) β)
    (Q : β → sProp 𝕄) : WP c (p >>= k) Q = WP c p fun a => WP c (k a) Q := by
  unfold WP; exact wp_bind ..
theorem WP_deviceId {α : Type} (c : Dev nD) (k : Dev nD → Prog (TpuEff nD τ sig (Elt F) Λ₀ .tc) α) (Q : α → sProp 𝕄) :
    WP c (.op .deviceId k) Q = WP c (k c) Q := by
  unfold WP; exact wp_deviceId ..

/-! ## The views -/

theorem slot_emb (M : Memref sig .tc .vmem S32x16x512 .bf16) (s : Dev nD) (x : Fin 16) (y : Fin 512) :
    (slotMem M s).view.emb (ix2 x y) = M.view.emb (ix3 (⟨s.val, s.isLt⟩ : Fin 32) x y) := by
  show M.view.emb ((slotRect s).idx (Shape.reshapeEquiv _ (ix2 x y))) = _
  congr 1
  rw [reshapeEquiv_ix2_1ab]
  funext a
  match a with
  | ⟨0, _⟩ => exact Fin.ext (show s.val + 1 * 0 = s.val by omega)
  | ⟨1, _⟩ => exact Fin.ext (show 0 + 1 * x.val = x.val by omega)
  | ⟨2, _⟩ => exact Fin.ext (show 0 + 1 * y.val = y.val by omega)

theorem slotRect_emb (s : Dev nD) (x : Fin 16) (y : Fin 512) :
    (slotRect s).emb (ix3 (0 : Fin 1) x y) = ix3 (⟨s.val, s.isLt⟩ : Fin 32) x y := by
  funext a
  match a with
  | ⟨0, _⟩ => exact Fin.ext (show s.val + 1 * 0 = s.val by omega)
  | ⟨1, _⟩ => exact Fin.ext (show 0 + 1 * x.val = x.val by omega)
  | ⟨2, _⟩ => exact Fin.ext (show 0 + 1 * y.val = y.val by omega)

theorem slot_view_set_s (s : Dev nD) : (slotMem sM s).view.set = slotSet s :=
  (Memref.set_view_squeeze _ _).trans ((View.set_slice_whole cc0_scratch0 (slotRect s)).trans (slotRect_set s))
theorem slot_view_set_r (s : Dev nD) : (slotMem rM s).view.set = slotSet s :=
  (Memref.set_view_squeeze _ _).trans ((View.set_slice_whole cc0_scratch1 (slotRect s)).trans (slotRect_set s))
theorem slot_access_set_s (s : Dev nD) : (sM.access (slotRect s)).set = slotSet s :=
  (View.set_slice_whole cc0_scratch0 (slotRect s)).trans (slotRect_set s)
theorem slot_access_set_r (s : Dev nD) : (rM.access (slotRect s)).set = slotSet s :=
  (View.set_slice_whole cc0_scratch1 (slotRect s)).trans (slotRect_set s)

/-- An index of slot `s` is its row and column in it. -/
theorem slot_index {s : Dev nD} {i : S32x16x512.Idx} (h : i ∈ slotSet s) :
    i = ix3 (⟨s.val, s.isLt⟩ : Fin 32) (⟨(i 1).val, (i 1).isLt⟩ : Fin 16) (⟨(i 2).val, (i 2).isLt⟩ : Fin 512) := by
  funext a
  match a with
  | ⟨0, _⟩ => exact Fin.ext (mem_slotSet.mp h)
  | ⟨1, _⟩ => rfl
  | ⟨2, _⟩ => rfl

theorem send_credit (M : Memref sig .tc .vmem S32x16x512 .bf16) {off : Fin 3 → ℕ} (hb : ∀ a, off a + S1x16x512.size a ≤ S32x16x512.size a) (hM : M = sM ∨ M = rM) :
    ((M.slice (Rect.unit (s := S32x16x512) off S1x16x512.size hb) (fun _ => rfl)).squeeze S16x512 squeezes_S1x16x512_S16x512).view.dmaCredit = N := by
  rcases hM with rfl | rfl <;> rfl

/-- The send semaphore the program names by an offset. -/
theorem send_sem {off : Fin 1 → ℕ} (hb : ∀ a, off a + S1.size a ≤ S32.size a) {d : Dev nD} (h : off = ![d.val]) :
    ((cc0_scratch2.slice (Rect.unit (s := S32) off S1.size hb)).squeeze S_ squeezes_S1_S_).sem = sendS d := by
  subst h
  revert hb
  revert d
  decide
/-- The receive semaphore the program names by an offset. -/
theorem recv_sem {off : Fin 1 → ℕ} (hb : ∀ a, off a + S1.size a ≤ S32.size a) {s : Dev nD} (h : off = ![s.val]) :
    ((cc0_scratch3.slice (Rect.unit (s := S32) off S1.size hb)).squeeze S_ squeezes_S1_S_).sem = recvS s := by
  subst h
  revert hb
  revert s
  decide

/-- What a transfer of slot `d` of `c`'s sending buffer leaves in slot `c` of `d`'s receiving buffer. -/
theorem landed (snd : Dev nD → Blocks F) (c d : Dev nD) (fd : Blocks F) : ∀ i ∈ slotSet c,
    ((slotMem rM c).view.write (Elt F) fd ((slotMem sM d).view.read (Elt F) (snd c)) Finset.univ : Blocks F) i = received snd d i := by
  intro i hi
  have hsrc : (slotMem sM d).view.read (Elt F) (snd c) (ix2 (⟨(i 1).val, (i 1).isLt⟩ : Fin 16) (⟨(i 2).val, (i 2).isLt⟩ : Fin 512))
      = snd c (ix3 (⟨d.val, d.isLt⟩ : Fin 32) (⟨(i 1).val, (i 1).isLt⟩ : Fin 16) (⟨(i 2).val, (i 2).isLt⟩ : Fin 512)) := by
    rw [View.read_apply, slot_emb]; rfl
  have hi' := slot_index hi
  have hemb : i = (slotMem rM c).view.emb (ix2 (⟨(i 1).val, (i 1).isLt⟩ : Fin 16) (⟨(i 2).val, (i 2).isLt⟩ : Fin 512)) := by
    rw [slot_emb]; exact hi'
  rw [hemb, View.write_emb_of_mem _ _ (Finset.mem_univ _), hsrc, ← hemb]
  unfold received
  have h0 : (⟨(i 0).val, (i 0).isLt⟩ : Dev nD) = c := Fin.ext (mem_slotSet.mp hi)
  rw [h0]; rfl

/-! ## What every device knows: the cells' invariants and that each has begun -/

variable (snd : Dev nD → Blocks F) (K : Dev nD × Option (Fin 64) → ℕ)

def records : sProp 𝕄 :=
  iprop((bigSep Finset.univ fun ck : Dev nD × Option (Fin 64) => cellInv ER (sched snd) (K ck) (kcell ck))
    ∗ bigSep Finset.univ fun ck : Dev nD × Option (Fin 64) => reached ER (kcell ck) 0)

instance records_persistent : BI.Persistent (records snd K) := by unfold records; infer_instance

theorem split_insert {I : Type} [DecidableEq I] {s : Finset I} {i : I} (hi : i ∉ s) {Φ : I → sProp 𝕄} :
    bigSep (insert i s) Φ = iprop(Φ i ∗ bigSep s Φ) := bigSep_insert hi
theorem one_of_all {I : Type} [Fintype I] [DecidableEq I] (Φ : I → sProp 𝕄) (i : I) : bigSep Finset.univ Φ ⊢ Φ i :=
  bigSep_elim (Finset.mem_univ i)

theorem inv_at (ck : Dev nD × Option (Fin 64)) : records snd K ⊢ cellInv ER (sched snd) (K ck) (kcell ck) := by
  unfold records
  iintro ⟨HI, -⟩
  iapply (one_of_all (F := F) (fun ck : Dev nD × Option (Fin 64) => cellInv ER (sched snd) (K ck) (kcell ck)) ck); iexact HI
theorem reached_at (ck : Dev nD × Option (Fin 64)) : records snd K ⊢ reached ER (kcell ck) 0 := by
  unfold records
  iintro ⟨-, HR⟩
  iapply (one_of_all (F := F) (fun ck : Dev nD × Option (Fin 64) => reached ER (kcell ck) 0) ck); iexact HR
theorem inv_recv (c s : Dev nD) : records snd K ⊢ cellInv ER (sched snd) (K (c, some (kRecv s))) (recvCell c s) := by
  rw [← kcell_recv]; exact inv_at snd K _
theorem reached_recv (c s : Dev nD) : records snd K ⊢ reached ER (recvCell c s) 0 := by
  rw [← kcell_recv]; exact reached_at snd K _

variable (c : Dev nD)

/-! ## Signals -/

/-- Before the signal to the device `k` places on: for every device still to be signalled the duty to its barrier and
    the slot handed over with it; the units still owed. -/
def Sig (k : ℕ) : sProp 𝕄 :=
  iprop(records snd K ∗ (bigSep (todo (gap c) k) fun d => iprop(dutyTok ER (barCell d) 0 c ∗ ∃ f, rPts c d f))
    ∗ ∃ W, owes (c : Thread nD τ) (owedRecv c 1 + owedBar c k) W)

theorem signal_step {α : Type} {k : ℕ} (h1 : 1 ≤ k) (hk : k < 32) {dst : Dev nD} (hdst : dst.val = (c.val + k) % 32)
    {R : sProp 𝕄} {Q : α → sProp 𝕄} {p : PUnit → Prog (TpuEff nD τ sig (Elt F) Λ₀ .tc) α}
    (h : iprop(Sig snd K c (k + 1) ∗ R) ⊢ WP c (p ⟨⟩) Q) :
    iprop(Sig snd K c k ∗ R) ⊢ WP c (.op (.semSignal (dst, .tc) barS (1#32 : BitVec 32).toInt) p) Q := by
  unfold WP at h ⊢
  have hd : dst = after c k := Fin.ext hdst
  subst hd
  have hne : c ≠ after c k := fun h => by have := gap_after c hk; rw [← h, gap_self] at this; omega
  have hO : owedRecv c 1 + owedBar c k = owedRecv c 1 + owedBar c (k + 1) + tallyAt (barCell (after c k)) () 1 := by
    rw [owedBar_peel c hk, add_assoc]
  unfold Sig
  rw [todo_peel (fun _ _ => gap_right_inj c) (gap_after c hk), split_insert (not_mem_todo (gap_after c hk))]
  iintro ⟨⟨#HR, ⟨⟨Ht, Hp⟩, Hrest⟩, ⟨%W, HO⟩⟩, HF⟩
  iapply (Rounds.wp_signal 𝒱₀ ER (sched snd) (c : Thread nD τ) none (dst := (after c k : Thread nD τ)) (κ := K (after c k, none))
      (d := c) (k' := 1) (by rw [duties_bar]; exact Finset.mem_erase.mpr ⟨hne, Finset.mem_univ _⟩) (amount_bar snd (after c k) c) ()
      (owedRecv c 1 + owedBar c (k + 1)) hO) $$ [Ht Hp HO]
  · isplitr; · iapply (inv_at snd K (after c k, none)); iexact HR
    isplitl [HO]; · iexact HO
    isplitl [Ht]; · iexact Ht
    isplitl [Hp]; · rw [payload_bar]; iexact Hp
    iapply (reached_at snd K (after c k, none)); iexact HR
  iintro HO
  iapply h
  unfold Sig
  isplitr [HF]
  · isplitr; · iexact HR
    isplitl [Hrest]; · iexact Hrest
    iexists W; iexact HO
  · iexact HF

/-! ## The barrier -/

/-- At the barrier wait: every unit owed paid. -/
def AtBar : sProp 𝕄 :=
  iprop(records snd K ∗ cred (tallyAt (barCell c) () 31) ∗ atPos ER (barCell c) 0 ∅ 0 ∗ levAts L lv ∗ ∃ W, owes (c : Thread nD τ) (owedRecv c 1) W)
/-- After it: slot `c` of every other device's receiving buffer, and the barrier's counter, zero. -/
def PastBar : sProp 𝕄 :=
  iprop((bigSep (Finset.univ.erase c) fun d => iprop(∃ f, rPts d c f)) ∗ semVal (barCell c) 0 ∗ ∃ W, owes (c : Thread nD τ) (owedRecv c 1) W)

theorem barrier_step {α : Type} {R : sProp 𝕄} {Q : α → sProp 𝕄} {p : PUnit → Prog (TpuEff nD τ sig (Elt F) Λ₀ .tc) α}
    (h : iprop(PastBar (F := F) c ∗ R) ⊢ WP c (p ⟨⟩) Q) :
    iprop(AtBar snd K c ∗ R) ⊢ WP c (.op (.semWait barS (31#32 : BitVec 32).toInt) p) Q := by
  unfold WP at h ⊢
  unfold AtBar
  iintro ⟨⟨#HR, Hc, Hat, Hlev, ⟨%W, HO⟩⟩, HF⟩
  iapply (Rounds.wp_wait_rest_token 𝒱₀ ER (sched snd) (c : Thread nD τ) none (κ := K (c, none))
      (wpE_semWait_eq 𝒱₀ (c : Thread nD τ) none Set.univ) (Set.mem_univ _) () (O := owedRecv c 1) (W := W) (R := 0) (m := 0) (T := ∅)
      (by rw [expect_bar]; decide)) $$ [Hc HO Hat Hlev]
  · isplitr; · iapply (inv_at snd K (c, none)); iexact HR
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar snd c)) $$ Hpay
  imod (Rounds.cell_close ER (sched snd) (Set.mem_univ (K (c, none))) (fun h => h) (R := 0 + 1) (duties_later snd (barCell c))) $$ [Hat] with Hz
  · isplitr; · iapply (inv_at snd K (c, none)); iexact HR
    iexact Hat
  iapply h
  unfold PastBar
  isplitr [HF]
  · isplitl [Hp]; · iexact Hp
    isplitl [Hz]; · iexact Hz
    iexists _; iexact HO
  · iexact HF

/-! ## Transfers -/

/-- Before the transfer to the device `k` places on: for every device still to be sent to the two duties, the slot to
    send and the slot to write; for those sent to, the right to wait for the transfer; the credit still owed. -/
def Snd (k : ℕ) : sProp 𝕄 :=
  iprop(records snd K
    ∗ (bigSep (todo (gap c) k) fun d => iprop(dutyTok ER (sendCell c d) 0 c ∗ dutyTok ER (recvCell d c) 0 c ∗ sPts c d (snd c) ∗ ∃ f, rPts d c f))
    ∗ (bigSep ((seen (gap c) k).erase c) fun d => cred (tallyAt (sendCell c d) () N))
    ∗ ∃ W, owes (c : Thread nD τ) (owedRecv c k) W)

theorem send_step {α : Type} {k : ℕ} (h1 : 1 ≤ k) (hk : k < 32) {dst : Dev nD} (hdst : dst.val = (c.val + k) % 32)
    {o4 o5 : Fin 3 → ℕ} {b4 : ∀ a, o4 a + S1x16x512.size a ≤ S32x16x512.size a} {b5 : ∀ a, o5 a + S1x16x512.size a ≤ S32x16x512.size a}
    (h4 : o4 = ![c.val, 0, 0]) (h5 : o5 = ![(c.val + k) % 32, 0, 0])
    {sS sR : DmaSem sig} (hS : sS = sendS (after c k)) (hR : sR = recvS c)
    {hsc hsrc hdst' hsem}
    {R : sProp 𝕄} {Q : α → sProp 𝕄} {p : PUnit → Prog (TpuEff nD τ sig (Elt F) Λ₀ .tc) α}
    (h : iprop(Snd snd K c (k + 1) ∗ R) ⊢ WP c (p ⟨⟩) Q) :
    iprop(Snd snd K c k ∗ R) ⊢ WP c (.op (.enqueueDma
      ((sM.slice (Rect.unit (s := S32x16x512) o5 S1x16x512.size b5) (fun _ => rfl)).squeeze S16x512 squeezes_S1x16x512_S16x512)
      (.remote (Dev.tc dst : Thread nD τ)
        ((rM.slice (Rect.unit (s := S32x16x512) o4 S1x16x512.size b4) (fun _ => rfl)).squeeze S16x512 squeezes_S1x16x512_S16x512)
        (.dma sS) hsc) (.dma sR) hsrc hdst' hsem) p) Q := by
  unfold WP at h ⊢
  have hd : dst = after c k := Fin.ext hdst
  subst hd hS hR
  subst h4 h5
  have hne : after c k ≠ c := fun h => by have := gap_after c hk; rw [h, gap_self] at this; omega
  unfold Snd
  rw [todo_peel (fun _ _ => gap_right_inj c) (gap_after c hk), split_insert (not_mem_todo (gap_after c hk))]
  iintro ⟨⟨#HR, ⟨⟨Ht, Ht', Hs, ⟨%f, Hd⟩⟩, Hrest⟩, Hcr, ⟨%W, HO⟩⟩, HF⟩
  unfold sPts rPts
  iapply (Rounds.wp_send_pointsTo 𝒱₀ ER (sched snd) (c : Thread nD τ) none (c' := (after c k : Thread nD τ))
    (src := slotMem sM (after c k)) (dst := slotMem rM c) (sS := .dma (sendS (after c k))) (sem := .dma (recvS c))
    (κ₁ := K (c, some (kSend (after c k)))) (κ₂ := K (after c k, some (kRecv c)))
    (r₁ := 0) (r₂ := 0) (d₁ := c) (d₂ := c) (fs := snd c) (fd := f) (q := fullShare)
    (by rw [duties_send snd c hne]; exact Finset.mem_singleton_self _) (by rw [duties_recv snd (after c k) hne.symm]; exact Finset.mem_singleton_self _)
    () () N rfl (amount_send snd c (after c k) c) (amount_recv snd (after c k) c c) (owedRecv c (k + 1)) (owedRecv_peel c hk) (W := W)
    (by rw [payload_send, slot_view_set_s]; exact BI.Entails.refl _)
    (by rw [payload_recv, slot_view_set_r]
        exact Entails.of_eq (rPts_congr (F := F) (c := after c k) (landed snd c (after c k) f)))) $$ [Ht Ht' Hs Hd HO]
  · isplitr; · iapply (inv_at snd K (c, some (kSend (after c k)))); iexact HR
    isplitr; · iapply (inv_recv snd K (after c k) c); iexact HR
    isplitl [Hs]; · rw [slot_view_set_s]; iexact Hs
    isplitl [Hd]; · rw [slot_view_set_r]; iexact Hd
    isplitl [HO]; · iexact HO
    isplitl [Ht]; · iexact Ht
    isplitr; · iapply (reached_at snd K (c, some (kSend (after c k)))); iexact HR
    isplitl [Ht']; · iexact Ht'
    iapply (reached_recv snd K (after c k) c); iexact HR
  iintro ⟨Hc, HO⟩
  iapply h
  unfold Snd
  isplitr [HF]
  · isplitr; · iexact HR
    isplitl [Hrest]; · iexact Hrest
    isplitl [Hc Hcr]
    · rw [seen_grow (fun _ _ => gap_right_inj c) (gap_after c hk), Finset.erase_insert_of_ne hne,
        split_insert (fun h => not_mem_seen (gap_after c hk) (Finset.mem_of_mem_erase h))]
      isplitl [Hc]; · iexact Hc
      iexact Hcr
    iexists W; iexact HO
  · iexact HF

/-! ## Waits for what the others send -/

/-- Before the wait for the device `k` places back: for every device still to be waited for the right to wait and the
    position; for the others, the slot received and the cell's counter, zero. -/
def Rcv (k : ℕ) : sProp 𝕄 :=
  iprop(records snd K
    ∗ (bigSep (todo (fun s => gap s c) k) fun s => iprop(cred (tallyAt (recvCell c s) () N) ∗ atPos ER (recvCell c s) 0 ∅ 0))
    ∗ (bigSep (seen (fun s => gap s c) k) fun s => iprop(rPts c s (received snd c) ∗ semVal (recvCell c s) 0))
    ∗ ∃ W, owes (c : Thread nD τ) 0 W)

theorem recv_step {α : Type} {k : ℕ} (h1 : 1 ≤ k) (hk : k < 32) {sem : DmaSem sig} (hsem : sem = recvS (before c k))
    {src dst : Memref sig .tc .vmem S16x512 .bf16} (hcr : dst.view.dmaCredit = N) {hsrc hdst}
    {R : sProp 𝕄} {Q : α → sProp 𝕄} {p : PUnit → Prog (TpuEff nD τ sig (Elt F) Λ₀ .tc) α}
    (h : iprop(Rcv snd K c (k + 1) ∗ R) ⊢ WP c (p ⟨⟩) Q) :
    iprop(Rcv snd K c k ∗ R) ⊢ WP c (.op (.waitDma2 sem src dst hsrc hdst) p) Q := by
  unfold WP at h ⊢
  subst hsem
  have hne : before c k ≠ c := fun h => by have := gap_before c hk; rw [h, gap_self] at this; omega
  unfold Rcv
  rw [todo_peel (o := fun s => gap s c) (fun _ _ => gap_left_inj c) (gap_before c hk), split_insert (not_mem_todo (o := fun s => gap s c) (gap_before c hk))]
  iintro ⟨⟨#HR, ⟨⟨Hc, Hat⟩, Hrest⟩, Hgot, ⟨%W, HO⟩⟩, HF⟩
  iapply (Rounds.wp_wait_rest_token 𝒱₀ ER (sched snd) (c : Thread nD τ) none (κ := K (c, some (kRecv (before c k))))
      (wpE_waitDma2_eq 𝒱₀ (c : Thread nD τ) none Set.univ) (Set.mem_univ _) () (O := 0) (W := W) (R := 0) (m := 0) (T := ∅)
      (by rw [Nat.zero_add, expect_recv snd c hne, hcr])) $$ [Hc HO Hat]
  · isplitr; · iapply (inv_recv snd K c (before c k)); iexact HR
    isplitl [Hc]; · rw [hcr]; iexact Hc
    isplitl [HO]; · iexact HO
    isplitr; · rw [MayWait_zero]; iempintro
    iexact Hat
  iintro ⟨HO, Hat, -, Hpay⟩
  ihave Hp := (Entails.of_eq (rest_recv snd c hne)) $$ Hpay
  imod (Rounds.cell_close ER (sched snd) (Set.mem_univ (K (c, some (kRecv (before c k))))) (fun h => h) (R := 0 + 1) (duties_later snd (recvCell c (before c k)))) $$ [Hat] with Hz
  · isplitr; · iapply (inv_recv snd K c (before c k)); iexact HR
    iexact Hat
  iapply h
  unfold Rcv
  isplitr [HF]
  · isplitr; · iexact HR
    isplitl [Hrest]; · iexact Hrest
    isplitl [Hp Hz Hgot]
    · rw [seen_grow (o := fun s => gap s c) (fun _ _ => gap_left_inj c) (gap_before c hk), split_insert (not_mem_seen (o := fun s => gap s c) (gap_before c hk))]
      isplitl [Hp Hz]
      · isplitl [Hp]; · iexact Hp
        iexact Hz
      iexact Hgot
    iexists _; iexact HO
  · iexact HF

/-! ## Waits for one's own transfers -/

/-- Before the wait for the transfer to the device `k` places on: for every transfer still to be waited for the right to
    wait and the position; for the others, the slot back and the cell's counter, zero. -/
def Bck (k : ℕ) : sProp 𝕄 :=
  iprop(records snd K
    ∗ (bigSep (todo (gap c) k) fun d => iprop(cred (tallyAt (sendCell c d) () N) ∗ atPos ER (sendCell c d) 0 ∅ 0))
    ∗ (bigSep (seen (gap c) k) fun d => iprop(sPts c d (snd c) ∗ semVal (sendCell c d) 0))
    ∗ ∃ W, owes (c : Thread nD τ) 0 W)

theorem back_step {α : Type} {k : ℕ} (h1 : 1 ≤ k) (hk : k < 32) {sem : DmaSem sig} (hsem : sem = sendS (after c k))
    {src dst : Memref sig .tc .vmem S16x512 .bf16} (hcr : dst.view.dmaCredit = N) {hsrc hdst}
    {R : sProp 𝕄} {Q : α → sProp 𝕄} {p : PUnit → Prog (TpuEff nD τ sig (Elt F) Λ₀ .tc) α}
    (h : iprop(Bck snd K c (k + 1) ∗ R) ⊢ WP c (p ⟨⟩) Q) :
    iprop(Bck snd K c k ∗ R) ⊢ WP c (.op (.waitDma2 sem src dst hsrc hdst) p) Q := by
  unfold WP at h ⊢
  subst hsem
  have hne : after c k ≠ c := fun h => by have := gap_after c hk; rw [h, gap_self] at this; omega
  unfold Bck
  rw [todo_peel (fun _ _ => gap_right_inj c) (gap_after c hk), split_insert (not_mem_todo (gap_after c hk))]
  iintro ⟨⟨#HR, ⟨⟨Hc, Hat⟩, Hrest⟩, Hgot, ⟨%W, HO⟩⟩, HF⟩
  iapply (Rounds.wp_wait_rest_token 𝒱₀ ER (sched snd) (c : Thread nD τ) none (κ := K (c, some (kSend (after c k))))
      (wpE_waitDma2_eq 𝒱₀ (c : Thread nD τ) none Set.univ) (Set.mem_univ _) () (O := 0) (W := W) (R := 0) (m := 0) (T := ∅)
      (by rw [Nat.zero_add, expect_send snd c hne, hcr])) $$ [Hc HO Hat]
  · isplitr; · iapply (inv_at snd K (c, some (kSend (after c k)))); iexact HR
    isplitl [Hc]; · rw [hcr]; iexact Hc
    isplitl [HO]; · iexact HO
    isplitr; · rw [MayWait_zero]; iempintro
    iexact Hat
  iintro ⟨HO, Hat, -, Hpay⟩
  ihave Hp := (Entails.of_eq (rest_send snd c hne)) $$ Hpay
  imod (Rounds.cell_close ER (sched snd) (Set.mem_univ (K (c, some (kSend (after c k))))) (fun h => h) (R := 0 + 1) (duties_later snd (sendCell c (after c k)))) $$ [Hat] with Hz
  · isplitr; · iapply (inv_at snd K (c, some (kSend (after c k)))); iexact HR
    iexact Hat
  iapply h
  unfold Bck
  isplitr [HF]
  · isplitr; · iexact HR
    isplitl [Hrest]; · iexact Hrest
    isplitl [Hp Hz Hgot]
    · rw [seen_grow (fun _ _ => gap_right_inj c) (gap_after c hk), split_insert (not_mem_seen (gap_after c hk))]
      isplitl [Hp Hz]
      · isplitl [Hp]; · iexact Hp
        iexact Hz
      iexact Hgot
    iexists _; iexact HO
  · iexact HF

/-! ## Loads and stores of slots -/

/-- The sending buffer with its first `k` slots written. -/
def Fill (k : ℕ) : sProp 𝕄 :=
  iprop(∃ f : Blocks F, ⌜∀ i, (i 0).val < k → f i = snd c i⌝ ∗ (((c : Thread nD τ).loc cc0_scratch0) ↦{fullShare} f))

theorem fill_load {α : Type} {k : ℕ} {r : LoadRect S32x16x512} {hl : sM.view.LoadsAt r}
    {R : sProp 𝕄} {Q : α → sProp 𝕄} {p : (r.shape.Idx → Elt F .bf16) → Prog (TpuEff nD τ sig (Elt F) Λ₀ .tc) α}
    (h : ∀ v, iprop(Fill snd c k ∗ R) ⊢ WP c (p v) Q) :
    iprop(Fill snd c k ∗ R) ⊢ WP c (.op (.load sM r hl) p) Q := by
  unfold WP at h ⊢
  unfold Fill
  iintro ⟨⟨%f, %hf, Hs⟩, HF⟩
  iapply (wp_load 𝒱₀ (c : Thread nD τ) none Set.univ (m := sM) (Finset.subset_univ _)) $$ Hs
  iintro Hs
  iapply (h _)
  unfold Fill
  isplitl [Hs]
  · iexists f; isplitr; · (ipureintro; exact hf)
    iexact Hs
  · iexact HF

theorem fill_store {α : Type} {k : ℕ} (hk : k < 32) {off : Fin 3 → ℕ} {b : ∀ a, off a + S1x16x512.size a ≤ S32x16x512.size a}
    (ho : off = ![k, 0, 0]) {w : S1x16x512.Idx → Elt F .bf16}
    (hw : ∀ (x : Fin 16) (y : Fin 512), w (ix3 (0 : Fin 1) x y) = snd c (ix3 (⟨k, hk⟩ : Fin 32) x y)) {hx hm}
    {R : sProp 𝕄} {Q : α → sProp 𝕄} {p : PUnit → Prog (TpuEff nD τ sig (Elt F) Λ₀ .tc) α}
    (h : iprop(Fill snd c (k + 1) ∗ R) ⊢ WP c (p ⟨⟩) Q) :
    iprop(Fill snd c k ∗ R) ⊢ WP c (.op (.store sM (Rect.unit (s := S32x16x512) off S1x16x512.size b) w Finset.univ hx hm) p) Q := by
  unfold WP at h ⊢
  subst ho
  unfold Fill
  iintro ⟨⟨%f, %hf, Hs⟩, HF⟩
  iapply (wp_store 𝒱₀ (c : Thread nD τ) none Set.univ (m := sM) (r := slotRect (⟨k, hk⟩ : Dev nD)) (w := w) (Mk := Finset.univ) (Finset.subset_univ _)) $$ Hs
  iintro Hs
  iapply h
  unfold Fill
  isplitl [Hs]
  · iexists _; isplitr
    swap; · iexact Hs
    ipureintro
    intro i hi
    rcases Nat.lt_succ_iff_lt_or_eq.mp hi with h' | h'
    · rw [View.write_of_not_mem]
      · exact hf i h'
      · intro hmem
        have : i ∈ slotSet (⟨k, hk⟩ : Dev nD) := by rw [← slot_access_set_s]; exact hmem
        have := mem_slotSet.mp this
        dsimp only at this; omega
    · have hi' : i ∈ slotSet (⟨k, hk⟩ : Dev nD) := mem_slotSet.mpr h'
      have he := slot_index hi'
      have hemb : i = (sM.access (slotRect (⟨k, hk⟩ : Dev nD))).emb (ix3 (0 : Fin 1) (⟨(i 1).val, (i 1).isLt⟩ : Fin 16) (⟨(i 2).val, (i 2).isLt⟩ : Fin 512)) :=
        he.trans (slotRect_emb (⟨k, hk⟩ : Dev nD) _ _).symm
      refine (congrArg _ hemb).trans ?_
      refine (View.write_emb_of_mem _ _ (Finset.mem_univ _)).trans ?_
      refine (hw _ _).trans ?_
      exact (congrArg (snd c) he).symm
  · iexact HF

/-- Loading slot `s` of the sending buffer, all of it written. -/
theorem filled_load {α : Type} {off : Fin 3 → ℕ} {b : ∀ a, off a + S1x16x512.size a ≤ S32x16x512.size a}
    (s : Dev nD) (ho : off = ![s.val, 0, 0]) {hl}
    {R : sProp 𝕄} {Q : α → sProp 𝕄} {p : (S1x16x512.Idx → Elt F .bf16) → Prog (TpuEff nD τ sig (Elt F) Λ₀ .tc) α}
    (h : ∀ v : S1x16x512.Idx → Elt F .bf16, (∀ (x : Fin 16) (y : Fin 512), v (ix3 (0 : Fin 1) x y) = snd c (ix3 (⟨s.val, s.isLt⟩ : Fin 32) x y)) →
      iprop(Fill snd c 32 ∗ R) ⊢ WP c (p v) Q) :
    iprop(Fill snd c 32 ∗ R) ⊢ WP c (.op (.load sM (Rect.unit (s := S32x16x512) off S1x16x512.size b).toLoadRect hl) p) Q := by
  unfold WP at h ⊢
  subst ho
  unfold Fill
  iintro ⟨⟨%f, %hf, Hs⟩, HF⟩
  iapply (wp_load 𝒱₀ (c : Thread nD τ) none Set.univ (m := sM) (Finset.subset_univ _)) $$ Hs
  iintro Hs
  iapply (h _ (fun x y => by
    refine Eq.trans ?_ (hf (ix3 (⟨s.val, s.isLt⟩ : Fin 32) x y) s.isLt)
    exact congrArg f (slotRect_emb s x y)))
  unfold Fill
  isplitl [Hs]
  · iexists f; isplitr; · (ipureintro; exact hf)
    iexact Hs
  · iexact HF

theorem rslot_load {α : Type} {off : Fin 3 → ℕ} {b : ∀ a, off a + S1x16x512.size a ≤ S32x16x512.size a}
    (s : Dev nD) (ho : off = ![s.val, 0, 0]) {hl} {f : Blocks F}
    {R : sProp 𝕄} {Q : α → sProp 𝕄} {p : (S1x16x512.Idx → Elt F .bf16) → Prog (TpuEff nD τ sig (Elt F) Λ₀ .tc) α}
    (h : ∀ v, iprop(rPts c s f ∗ R) ⊢ WP c (p v) Q) :
    iprop(rPts c s f ∗ R) ⊢ WP c (.op (.load rM (Rect.unit (s := S32x16x512) off S1x16x512.size b).toLoadRect hl) p) Q := by
  unfold WP at h ⊢
  subst ho
  unfold rPts
  iintro ⟨Hs, HF⟩
  iapply (wp_load_rect 𝒱₀ (c : Thread nD τ) none Set.univ (m := rM) (r := slotRect s) (Finset.subset_of_eq (slot_access_set_r s))) $$ Hs
  iintro Hs
  iapply (h _)
  unfold rPts
  isplitl [Hs]; · iexact Hs
  iexact HF

/-- Storing into slot `s` of the receiving buffer what it is to hold. -/
theorem rslot_store {α : Type} {off : Fin 3 → ℕ} {b : ∀ a, off a + S1x16x512.size a ≤ S32x16x512.size a}
    (s : Dev nD) (ho : off = ![s.val, 0, 0]) {f g : Blocks F} {w : S1x16x512.Idx → Elt F .bf16}
    (hw : ∀ (x : Fin 16) (y : Fin 512), w (ix3 (0 : Fin 1) x y) = g (ix3 (⟨s.val, s.isLt⟩ : Fin 32) x y)) {hx hm}
    {R : sProp 𝕄} {Q : α → sProp 𝕄} {p : PUnit → Prog (TpuEff nD τ sig (Elt F) Λ₀ .tc) α}
    (h : iprop(rPts c s g ∗ R) ⊢ WP c (p ⟨⟩) Q) :
    iprop(rPts c s f ∗ R) ⊢ WP c (.op (.store rM (Rect.unit (s := S32x16x512) off S1x16x512.size b) w Finset.univ hx hm) p) Q := by
  unfold WP at h ⊢
  subst ho
  have hg : ∀ i ∈ slotSet s, ((rM.access (slotRect s)).write (Elt F) f w Finset.univ : Blocks F) i = g i := by
    intro i hi
    have he := slot_index hi
    have hemb : i = (rM.access (slotRect s)).emb (ix3 (0 : Fin 1) (⟨(i 1).val, (i 1).isLt⟩ : Fin 16) (⟨(i 2).val, (i 2).isLt⟩ : Fin 512)) :=
      he.trans (slotRect_emb s _ _).symm
    refine (congrArg _ hemb).trans ?_
    refine (View.write_emb_of_mem _ _ (Finset.mem_univ _)).trans ?_
    refine (hw _ _).trans ?_
    exact (congrArg g he).symm
  unfold rPts
  iintro ⟨Hs, HF⟩
  iapply (wp_store 𝒱₀ (c : Thread nD τ) none Set.univ (m := rM) (r := slotRect s) (Mk := Finset.univ) (Finset.subset_of_eq (slot_access_set_r s))) $$ Hs
  iintro Hs
  iapply h
  isplitl [Hs]
  · iapply (Entails.of_eq (rPts_congr (c := c) hg)); unfold rPts; iexact Hs
  iexact HF

end Cert.MoE

end
-- ==== Proof.Proof.Phases.lean ====
/-
# From one phase of the exchange to the next

The blocks a device sends, as a function of its arguments; what it starts from and ends with; and, between two phases,
how what the first leaves becomes what the second starts from.
-/
module

public import proofs.«01_k».proof.Proof.Proof.Steps

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## Values -/

/-- One device's arguments. -/
structure Args (F : FTy → Type) where
  x : Vec F S512x256 .bf16
  w : Vec F S256x64 .bf16
  i : Vec F S512x2 .i32
  e : Vec F S2x256x512 .bf16

/-- The device's own number as the program computes it. -/
abbrev meWord (c : Dev nD) : BitVec 32 := Scalar.remsi (Scalar.divsi (Dev.word c) 1#32) 32#32

abbrev rX : Rect S512x256 := Rect.unit (s := S512x256) ![0, 0] S512x256.size inb_S512x256_S512x256_0_0
abbrev rW : Rect S256x64 := Rect.unit (s := S256x64) ![0, 0] S256x64.size inb_S256x64_S256x64_0_0
abbrev rI0 : Rect S512x2 := Rect.unit (s := S512x2) ![0, 0] S512x1.size inb_S512x2_S512x1_0_0
abbrev rI1 : Rect S512x2 := Rect.unit (s := S512x2) ![0, 1] S512x1.size inb_S512x2_S512x1_0_1
abbrev rE0 : Rect S2x256x512 := Rect.unit (s := S2x256x512) ![0, 0, 0] S1x256x512.size inb_S2x256x512_S1x256x512_0_0_0
abbrev rE1 : Rect S2x256x512 := Rect.unit (s := S2x256x512) ![1, 0, 0] S1x256x512.size inb_S2x256x512_S1x256x512_1_0_0
abbrev rR : Rect S32x16x512 := Rect.unit (s := S32x16x512) ![0, 0, 0] S32x16x512.size inb_S32x16x512_S32x16x512_0_0_0
abbrev rO : Rect S16x512 := Rect.unit (s := S16x512) ![0, 0] S16x512.size inb_S16x512_S16x512_0_0

/-- The first and the second chosen expert of every token. -/
abbrev col0 (a : Args F) : Vec F S512x1 .i32 := iM.view.readAt (Elt F) rI0.toLoadRect a.i
abbrev col1 (a : Args F) : Vec F S512x1 .i32 := iM.view.readAt (Elt F) rI1.toLoadRect a.i
abbrev ex0 (a : Args F) : Vec F S1x256x512 .bf16 := eM.view.readAt (Elt F) rE0.toLoadRect a.e
abbrev ex1 (a : Args F) : Vec F S1x256x512 .bf16 := eM.view.readAt (Elt F) rE1.toLoadRect a.e

/-- A device's first expert's part of the result, and its second's. -/
def part0 (c : Dev nD) (a : Args F) : FVec F S512x512 .f32 :=
  k0_pay10 (meWord c) (k0_pay2 (col0 a)) (k0_pay3 (col1 a)) (k0_pay5 a.x a.w (col1 a)) (k0_pay6 a.x a.w (col0 a) (col1 a))
    (k0_pay7 a.x a.w (col0 a) (col1 a)) a.x (ex0 a)
def part1 (c : Dev nD) (a : Args F) : FVec F S512x512 .f32 :=
  k0_pay11 (meWord c) (k0_pay2 (col0 a)) (k0_pay3 (col1 a)) (k0_pay5 a.x a.w (col1 a)) (k0_pay6 a.x a.w (col0 a) (col1 a))
    (k0_pay7 a.x a.w (col0 a) (col1 a)) a.x (ex1 a)
/-- A device's part of the result. -/
def acc (c : Dev nD) (a : Args F) : FVec F S512x512 .f32 := k0_pay12 (part0 c a) (part1 c a)

/-- The row of the result that row `x` of block `s` is. -/
abbrev blockRow (s : Fin 32) (x : Fin 16) : Fin 512 := ⟨16 * s.val + x.val, by omega⟩

/-- What a device has in its sending buffer: its part of the result, rounded, in blocks of sixteen rows. -/
def sent (A : Dev nD → Args F) (c : Dev nD) : Blocks F := fun j =>
  truncf .bf16 (acc c (A c)) bitsLt_bf16_f32 (ix2 (blockRow ⟨(j 0).val, (j 0).isLt⟩ ⟨(j 1).val, (j 1).isLt⟩) (⟨(j 2).val, (j 2).isLt⟩ : Fin 512))

/-- What a device stores into slot `k` is block `k` of its part. -/
theorem piece_eq (A : Dev nD → Args F) (c : Dev nD) (v : FVec F S512x512 .f32) (hv : v = acc c (A c)) {k : ℕ} (hk : k < 32) {o : Fin 2 → ℕ} (ho : o = ![16 * k, 0])
    (hs : S512x512.Slices o S16x512) (x : Fin 16) (y : Fin 512) :
    shapeCast S1x16x512 (truncf .bf16 (extractStridedSlice S16x512 o v hs) bitsLt_bf16_f32) shapeCasts_S16x512_S1x16x512 (ix3 (0 : Fin 1) x y)
      = sent A c (ix3 (⟨k, hk⟩ : Fin 32) x y) := by
  subst ho hv
  rw [shapeCast_ab_1ab_apply]
  unfold sent
  show FloatOps.truncf _ _ (acc c (A c) _) = FloatOps.truncf _ _ (acc c (A c) _)
  congr 2
  funext a
  match a with
  | ⟨0, _⟩ => rfl
  | ⟨1, _⟩ => exact Fin.ext (Nat.zero_add y.val)

/-- Two shape casts between which nothing happens. -/
theorem recast_eq (v : S1x16x512.Idx → Elt F .bf16) (x : Fin 16) (y : Fin 512) : k0_pay48 v (ix3 (0 : Fin 1) x y) = v (ix3 (0 : Fin 1) x y) := by
  unfold k0_pay48
  rw [shapeCast_ab_1ab_apply, shapeCast_1ab_ab_apply]

/-- A device's result. -/
def outOf (A : Dev nD → Args F) (c : Dev nD) : Vec F S16x512 .f32 := k0_pay49 (received (sent A) c)

/-! ## Rules without state -/

theorem ret_step {α : Type} {c : Dev nD} {P : sProp 𝕄} {Q : α → sProp 𝕄} {a : α} (h : P ⊢ Q a) : P ⊢ WP c (.ret a) Q := by
  unfold WP; exact h.trans (le_wp_ret _ _ _ _ _)

theorem upd_step {α : Type} {c : Dev nD} {P P' : sProp 𝕄} {Q : α → sProp 𝕄} {p : Prog (TpuEff nD τ sig (Elt F) Λ₀ .tc) α}
    (h : P ⊢ iprop(|={Set.univ}=> P')) (h' : P' ⊢ WP c p Q) : P ⊢ WP c p Q := by
  unfold WP at h' ⊢
  iintro H
  imod h $$ H with H
  iapply h'
  iexact H

/-! ## The staged arguments and the result -/

variable (c : Dev nD)

/-- The staged arguments. -/
def Ins (a : Args F) : sProp 𝕄 :=
  iprop((((c : Thread nD τ).loc cc0_stg0_0) ↦{fullShare} a.x) ∗ (((c : Thread nD τ).loc cc0_stg1_0) ↦{fullShare} a.w)
    ∗ (((c : Thread nD τ).loc cc0_stg2_0) ↦{fullShare} a.i) ∗ (((c : Thread nD τ).loc cc0_stg3_0) ↦{fullShare} a.e))

theorem zero2 : (![0, 0] : Fin 2 → ℕ) = fun _ => 0 := funext fun a => by fin_cases a <;> rfl
theorem zero3 : (![0, 0, 0] : Fin 3 → ℕ) = fun _ => 0 := funext fun a => by fin_cases a <;> rfl
theorem read_x (f : (cc0_stg0_0 : Ref sig .tc).ty.Contents (Elt F)) : xM.view.readAt (Elt F) rX.toLoadRect f = f :=
  Memref.readAt_unit_zero (Elt F) cc0_stg0_0 zero2 _ f
theorem read_w (f : (cc0_stg1_0 : Ref sig .tc).ty.Contents (Elt F)) : wM.view.readAt (Elt F) rW.toLoadRect f = f :=
  Memref.readAt_unit_zero (Elt F) cc0_stg1_0 zero2 _ f
theorem read_r (f : (cc0_scratch1 : Ref sig .tc).ty.Contents (Elt F)) : rM.view.readAt (Elt F) rR.toLoadRect f = f :=
  Memref.readAt_unit_zero (Elt F) cc0_scratch1 zero3 _ f

section Loads

variable {α : Type} {a : Args F}

theorem load_x {R : sProp 𝕄} {Q : α → sProp 𝕄} {hl} {p : (S512x256.Idx → Elt F .bf16) → Prog (TpuEff nD τ sig (Elt F) Λ₀ .tc) α}
    (h : iprop(Ins c a ∗ R) ⊢ WP c (p a.x) Q) : iprop(Ins c a ∗ R) ⊢ WP c (.op (.load xM rX.toLoadRect hl) p) Q := by
  unfold WP at h ⊢
  unfold Ins
  iintro ⟨⟨Hx, Hw, Hi, He⟩, HF⟩
  iapply (wp_load 𝒱₀ (c : Thread nD τ) none Set.univ (m := xM) (Finset.subset_univ _)) $$ Hx
  iintro Hx
  rw [read_x]
  iapply h
  unfold Ins
  isplitr [HF]
  · isplitl [Hx]; · iexact Hx
    isplitl [Hw]; · iexact Hw
    isplitl [Hi] <;> iassumption
  iexact HF

theorem load_w {R : sProp 𝕄} {Q : α → sProp 𝕄} {hl} {p : (S256x64.Idx → Elt F .bf16) → Prog (TpuEff nD τ sig (Elt F) Λ₀ .tc) α}
    (h : iprop(Ins c a ∗ R) ⊢ WP c (p a.w) Q) : iprop(Ins c a ∗ R) ⊢ WP c (.op (.load wM rW.toLoadRect hl) p) Q := by
  unfold WP at h ⊢
  unfold Ins
  iintro ⟨⟨Hx, Hw, Hi, He⟩, HF⟩
  iapply (wp_load 𝒱₀ (c : Thread nD τ) none Set.univ (m := wM) (Finset.subset_univ _)) $$ Hw
  iintro Hw
  rw [read_w]
  iapply h
  unfold Ins
  isplitr [HF]
  · isplitl [Hx]; · iexact Hx
    isplitl [Hw]; · iexact Hw
    isplitl [Hi] <;> iassumption
  iexact HF

theorem load_i {R : sProp 𝕄} {Q : α → sProp 𝕄} {r : LoadRect S512x2} {hl} {p : (r.shape.Idx → Elt F .i32) → Prog (TpuEff nD τ sig (Elt F) Λ₀ .tc) α}
    (h : iprop(Ins c a ∗ R) ⊢ WP c (p (iM.view.readAt (Elt F) r a.i)) Q) : iprop(Ins c a ∗ R) ⊢ WP c (.op (.load iM r hl) p) Q := by
  unfold WP at h ⊢
  unfold Ins
  iintro ⟨⟨Hx, Hw, Hi, He⟩, HF⟩
  iapply (wp_load 𝒱₀ (c : Thread nD τ) none Set.univ (m := iM) (Finset.subset_univ _)) $$ Hi
  iintro Hi
  iapply h
  unfold Ins
  isplitr [HF]
  · isplitl [Hx]; · iexact Hx
    isplitl [Hw]; · iexact Hw
    isplitl [Hi] <;> iassumption
  iexact HF

theorem load_e {R : sProp 𝕄} {Q : α → sProp 𝕄} {r : LoadRect S2x256x512} {hl} {p : (r.shape.Idx → Elt F .bf16) → Prog (TpuEff nD τ sig (Elt F) Λ₀ .tc) α}
    (h : iprop(Ins c a ∗ R) ⊢ WP c (p (eM.view.readAt (Elt F) r a.e)) Q) : iprop(Ins c a ∗ R) ⊢ WP c (.op (.load eM r hl) p) Q := by
  unfold WP at h ⊢
  unfold Ins
  iintro ⟨⟨Hx, Hw, Hi, He⟩, HF⟩
  iapply (wp_load 𝒱₀ (c : Thread nD τ) none Set.univ (m := eM) (Finset.subset_univ _)) $$ He
  iintro He
  iapply h
  unfold Ins
  isplitr [HF]
  · isplitl [Hx]; · iexact Hx
    isplitl [Hw]; · iexact Hw
    isplitl [Hi] <;> iassumption
  iexact HF

/-- The receiving buffer, whole. -/
def RBuf (f : Blocks F) : sProp 𝕄 := ((c : Thread nD τ).loc cc0_scratch1) ↦{fullShare} f
/-- The staged result. -/
def Out (f : Vec F S16x512 .f32) : sProp 𝕄 := ((c : Thread nD τ).loc cc0_stg4_0) ↦{fullShare} f

theorem load_r {R : sProp 𝕄} {Q : α → sProp 𝕄} {f : Blocks F} {hl} {p : (S32x16x512.Idx → Elt F .bf16) → Prog (TpuEff nD τ sig (Elt F) Λ₀ .tc) α}
    (h : iprop(RBuf c f ∗ R) ⊢ WP c (p f) Q) : iprop(RBuf c f ∗ R) ⊢ WP c (.op (.load rM rR.toLoadRect hl) p) Q := by
  unfold WP at h ⊢
  unfold RBuf
  iintro ⟨Hx, HF⟩
  iapply (wp_load 𝒱₀ (c : Thread nD τ) none Set.univ (m := rM) (Finset.subset_univ _)) $$ Hx
  iintro Hx
  rw [read_r]
  iapply h
  unfold RBuf
  isplitl [Hx] <;> iassumption

theorem load_o {R : sProp 𝕄} {Q : α → sProp 𝕄} {f : Vec F S16x512 .f32} {r : LoadRect S16x512} {hl} {p : (r.shape.Idx → Elt F .f32) → Prog (TpuEff nD τ sig (Elt F) Λ₀ .tc) α}
    (h : ∀ v, iprop(Out c f ∗ R) ⊢ WP c (p v) Q) : iprop(Out c f ∗ R) ⊢ WP c (.op (.load oM r hl) p) Q := by
  unfold WP at h ⊢
  unfold Out
  iintro ⟨Hx, HF⟩
  iapply (wp_load 𝒱₀ (c : Thread nD τ) none Set.univ (m := oM) (Finset.subset_univ _)) $$ Hx
  iintro Hx
  iapply (h _)
  unfold Out
  isplitl [Hx] <;> iassumption

theorem store_o {R : sProp 𝕄} {Q : α → sProp 𝕄} {f g : Vec F S16x512 .f32} {hx hm} {p : PUnit → Prog (TpuEff nD τ sig (Elt F) Λ₀ .tc) α}
    (h : iprop(Out c g ∗ R) ⊢ WP c (p ⟨⟩) Q) : iprop(Out c f ∗ R) ⊢ WP c (.op (.store oM rO g Finset.univ hx hm) p) Q := by
  unfold WP at h ⊢
  unfold Out
  iintro ⟨Hx, HF⟩
  iapply (wp_store 𝒱₀ (c : Thread nD τ) none Set.univ (m := oM) (r := rO) (Mk := Finset.univ) (Finset.subset_univ _)) $$ Hx
  iintro Hx
  ihave Hx := (Entails.of_eq (congrArg (fun z => (((c : Thread nD τ).loc cc0_stg4_0) ↦{fullShare} z : sProp 𝕄))
    (Memref.write_access_unit_zero_univ (Elt F) cc0_stg4_0 (off := ![0, 0]) (funext fun a => by fin_cases a <;> rfl) _ f g))) $$ Hx
  iapply h
  unfold Out
  isplitl [Hx] <;> iassumption

end Loads

/-! ## Between the phases -/

variable (snd : Dev nD → Blocks F) (K : Dev nD × Option (Fin 64) → ℕ)

/-- For every device but `c`. -/
abbrev others (Φ : Dev nD → sProp 𝕄) : sProp 𝕄 := bigSep (Finset.univ.erase c) Φ

/-- What is left to use once the result is stored: the positions at the send cells. -/
def Tok4 : sProp 𝕄 := bigSep Finset.univ fun d => atPos ER (sendCell c d) 0 ∅ 0
/-- … once the transfers are out: the right to wait for the others' too. -/
def Tok3 : sProp 𝕄 :=
  iprop((others c fun s => cred (tallyAt (recvCell c s) () N)) ∗ (bigSep Finset.univ fun s => atPos ER (recvCell c s) 0 ∅ 0) ∗ Tok4 (F := F) c)
/-- … once the barrier is passed: the transfers' duties too. -/
def Tok2 : sProp 𝕄 :=
  iprop((others c fun d => dutyTok ER (sendCell c d) 0 c) ∗ (others c fun d => dutyTok ER (recvCell d c) 0 c) ∗ Tok3 (F := F) c)
/-- … once every signal is out: the right to wait at the barrier too. -/
def Tok1 : sProp 𝕄 :=
  iprop(cred (tallyAt (barCell c) () 31) ∗ atPos ER (barCell c) 0 ∅ 0 ∗ levAts L lv ∗ Tok2 (F := F) c)
/-- What a device has of the exchange at the start. -/
def Held : sProp 𝕄 :=
  iprop(records snd K ∗ (others c fun d => dutyTok ER (barCell d) 0 c) ∗ Tok1 (F := F) c)

def SelfSlot : sProp 𝕄 := iprop(∃ f, rPts (F := F) c c f)

theorem gap_c : gap c c = 0 := gap_self c
theorem todo_others : todo (gap c) 1 = Finset.univ.erase c := todo_one (fun _ _ => gap_right_inj c) (gap_self c)
theorem todo_others' : todo (fun s => gap s c) 1 = Finset.univ.erase c := todo_one (o := fun s => gap s c) (fun _ _ => gap_left_inj c) (gap_self c)
theorem seen_self : seen (gap c) 1 = {c} := seen_one (fun _ _ => gap_right_inj c) (gap_self c)
theorem seen_self' : seen (fun s => gap s c) 1 = {c} := seen_one (o := fun s => gap s c) (fun _ _ => gap_left_inj c) (gap_self c)
theorem todo_none : todo (gap c) 32 = ∅ := todo_all fun x => gap_lt c x
theorem todo_none' : todo (fun s => gap s c) 32 = ∅ := todo_all fun x => gap_lt x c
theorem seen_every : seen (gap c) 32 = Finset.univ := seen_all fun x => gap_lt c x
theorem seen_every' : seen (fun s => gap s c) 32 = Finset.univ := seen_all fun x => gap_lt x c

theorem both {I : Type} (s : Finset I) (Φ Ψ : I → sProp 𝕄) : iprop(bigSep s Φ ∗ bigSep s Ψ) ⊢ bigSep s fun i => iprop(Φ i ∗ Ψ i) :=
  Entails.of_eq (bigSep_sep s Φ Ψ).symm
theorem apart {I : Type} (s : Finset I) (Φ Ψ : I → sProp 𝕄) : (bigSep s fun i => iprop(Φ i ∗ Ψ i)) ⊢ iprop(bigSep s Φ ∗ bigSep s Ψ) :=
  Entails.of_eq (bigSep_sep s Φ Ψ)
theorem split_self (Φ : Dev nD → sProp 𝕄) : bigSep Finset.univ Φ ⊢ iprop(Φ c ∗ others c Φ) := Entails.of_eq (bigSep_univ_split c)
theorem join_self (Φ : Dev nD → sProp 𝕄) : iprop(Φ c ∗ others c Φ) ⊢ bigSep Finset.univ Φ := Entails.of_eq (bigSep_univ_split c).symm
theorem any_slot (f : Blocks F) (d : Dev nD) : rPts c d f ⊢ iprop(∃ f, rPts (F := F) c d f) := by iintro H; iexists f; iexact H

theorem some_slots (f : Blocks F) (s : Finset (Dev nD)) : (bigSep s fun d => rPts c d f) ⊢ bigSep s fun d => iprop(∃ f, rPts (F := F) c d f) :=
  bigSep_mono fun d _ => any_slot c f d
theorem recv_self_empty : ∀ r, 0 ≤ r → (sched snd).duties (recvCell c c) r = ∅ := fun r _ =>
  r.eq_zero_or_pos.elim (fun h => h ▸ duties_recv_self snd c) (fun h => duties_later snd _ r h)
theorem send_self_empty : ∀ r, 0 ≤ r → (sched snd).duties (sendCell c c) r = ∅ := fun r _ =>
  r.eq_zero_or_pos.elim (fun h => h ▸ duties_send_self snd c) (fun h => duties_later snd _ r h)

/-- To the signals. -/
theorem to_signals {R : sProp 𝕄} :
    iprop(Held c snd K ∗ (∃ f : Blocks F, ((c : Thread nD τ).loc cc0_scratch0) ↦{fullShare} f) ∗ (∃ f, RBuf (F := F) c f)
        ∗ (∃ W, owes (c : Thread nD τ) (O₀ c) W) ∗ R)
      ⊢ iprop(Sig snd K c 1 ∗ (R ∗ (Fill snd c 0 ∗ (SelfSlot (F := F) c ∗ Tok1 (F := F) c)))) := by
  unfold Held
  iintro ⟨⟨#HR, Hd, HT⟩, ⟨%fs, Hs⟩, ⟨%fr, Hr⟩, HO, HF⟩
  unfold RBuf
  ihave Hr := (Entails.of_eq (rPts_whole c fr)) $$ Hr
  ihave Hr := (split_self (F := F) c _) $$ Hr
  icases Hr with ⟨Hself, Hr⟩
  isplitl [Hd Hr HO]
  · unfold Sig
    isplitr; · iexact HR
    isplitl [Hd Hr]
    · rw [todo_others]
      iapply (both (F := F) _ _ _)
      isplitl [Hd]; · iexact Hd
      iapply (some_slots (F := F) c fr _); iexact Hr
    iexact HO
  isplitl [HF]; · iexact HF
  isplitl [Hs]
  · unfold Fill
    iexists fs
    isplitr; · ipureintro; intro i hi; omega
    iexact Hs
  isplitl [Hself]
  · unfold SelfSlot; iexists fr; iexact Hself
  iexact HT

/-- To the loads and stores. -/
theorem to_loads {I Fi Se : sProp 𝕄} :
    iprop(Sig snd K c 32 ∗ (I ∗ (Fi ∗ (Se ∗ Tok1 (F := F) c)))) ⊢ iprop(I ∗ (Fi ∗ (Se ∗ (AtBar snd K c ∗ (records snd K ∗ Tok2 (F := F) c))))) := by
  unfold Sig Tok1 AtBar
  rw [owedBar_done, add_zero]
  iintro ⟨⟨#HR, -, HO⟩, HI, Hf, Hs, Hc, Ha, Hl, HT⟩
  isplitl [HI]; · iexact HI
  isplitl [Hf]; · iexact Hf
  isplitl [Hs]; · iexact Hs
  isplitl [HO Hc Ha Hl]
  · isplitr; · iexact HR
    isplitl [Hc]; · iexact Hc
    isplitl [Ha]; · iexact Ha
    isplitl [Hl]; · iexact Hl
    iexact HO
  isplitr; · iexact HR
  iexact HT

/-- To the transfers. -/
theorem to_sends {I : sProp 𝕄} :
    iprop(PastBar (F := F) c ∗ (I ∗ (Fill snd c 32 ∗ (rPts c c (received snd c) ∗ (records snd K ∗ Tok2 (F := F) c)))))
      ⊢ iprop(Snd snd K c 1 ∗ (I ∗ (sPts c c (snd c) ∗ (rPts c c (received snd c) ∗ (semVal (barCell c) 0 ∗ (records snd K ∗ Tok3 (F := F) c)))))) := by
  unfold PastBar Tok2 Fill Snd
  iintro ⟨⟨Hsl, Hz, HO⟩, HI, ⟨%f, %hf, Hs⟩, Hr, #HR, Ht, Ht', HT⟩
  have hf' : f = snd c := funext fun i => hf i (i 0).isLt
  subst hf'
  ihave Hs := (Entails.of_eq (sPts_whole c (snd c))) $$ Hs
  ihave Hs := (split_self (F := F) c _) $$ Hs
  icases Hs with ⟨Hself, Hs⟩
  isplitl [Hsl HO Hs Ht Ht']
  · isplitr; · iexact HR
    isplitl [Hsl Hs Ht Ht']
    · rw [todo_others]
      iapply (both (F := F) _ _ _)
      isplitl [Ht]; · iexact Ht
      iapply (both (F := F) _ _ _)
      isplitl [Ht']; · iexact Ht'
      iapply (both (F := F) _ _ _)
      isplitl [Hs] <;> iassumption
    isplitr; · rw [seen_self, Finset.erase_singleton, bigSep_empty]; iempintro
    iexact HO
  isplitl [HI]; · iexact HI
  isplitl [Hself]; · iexact Hself
  isplitl [Hr]; · iexact Hr
  isplitl [Hz]; · iexact Hz
  isplitr; · iexact HR
  iexact HT

/-- To the waits for the others' transfers. -/
theorem to_recvs {I S B : sProp 𝕄} :
    iprop(Snd snd K c 32 ∗ (I ∗ (S ∗ (rPts c c (received snd c) ∗ (B ∗ (records snd K ∗ Tok3 (F := F) c))))))
      ⊢ iprop(|={Set.univ}=> (Rcv snd K c 1 ∗ (I ∗ (S ∗ (B ∗ (records snd K ∗ ((others c fun d => cred (tallyAt (sendCell c d) () N)) ∗ Tok4 (F := F) c))))))) := by
  unfold Snd Tok3 Rcv
  rw [owedRecv_done, seen_every]
  iintro ⟨⟨#HR, -, Hcr, HO⟩, HI, HS, Hr, HB, -, Hc, Ha, HT⟩
  ihave Ha := (split_self (F := F) c _) $$ Ha
  icases Ha with ⟨Hself, Ha⟩
  imod (Rounds.cell_close ER (sched snd) (Set.mem_univ (K (c, some (kRecv c)))) (fun h => h) (R := 0) (recv_self_empty c snd)) $$ [Hself] with Hz
  · isplitr; · iapply (inv_recv snd K c c); iexact HR
    iexact Hself
  imodintro
  isplitl [HO Hr Hz Hc Ha]
  · isplitr; · iexact HR
    isplitl [Hc Ha]
    · rw [todo_others']
      iapply (both (F := F) _ _ _)
      isplitl [Hc] <;> iassumption
    isplitl [Hr Hz]
    · rw [seen_self', bigSep_singleton]
      isplitl [Hr] <;> iassumption
    iexact HO
  isplitl [HI]; · iexact HI
  isplitl [HS]; · iexact HS
  isplitl [HB]; · iexact HB
  isplitr; · iexact HR
  isplitl [Hcr] <;> iassumption

/-- To the sum. -/
theorem to_sum {I O S B Z : sProp 𝕄} :
    iprop(Rcv snd K c 32 ∗ ((I ∗ O) ∗ (S ∗ (B ∗ Z))))
      ⊢ iprop(RBuf c (received snd c) ∗ (O ∗ (I ∗ (S ∗ (B ∗ ((bigSep Finset.univ fun s => semVal (recvCell c s) 0) ∗ ((∃ W, owes (c : Thread nD τ) 0 W) ∗ Z))))))) := by
  unfold Rcv RBuf
  rw [seen_every']
  iintro ⟨⟨-, -, Hg, HO⟩, ⟨HI, Ho⟩, HS, HB, HZ⟩
  ihave Hg := (apart (F := F) _ _ _) $$ Hg
  icases Hg with ⟨Hr, Hz⟩
  isplitl [Hr]; · rw [rPts_whole]; iexact Hr
  isplitl [Ho]; · iexact Ho
  isplitl [HI]; · iexact HI
  isplitl [HS]; · iexact HS
  isplitl [HB]; · iexact HB
  isplitl [Hz]; · iexact Hz
  isplitl [HO] <;> iassumption

/-- To the waits for the device's own transfers. -/
theorem to_backs {O I B V X : sProp 𝕄} :
    iprop(O ∗ (X ∗ (I ∗ (sPts c c (snd c) ∗ (B ∗ (V ∗ ((∃ W, owes (c : Thread nD τ) 0 W)
        ∗ (records snd K ∗ ((others c fun d => cred (tallyAt (sendCell c d) () N)) ∗ Tok4 (F := F) c)))))))))
      ⊢ iprop(|={Set.univ}=> (Bck snd K c 1 ∗ (O ∗ (X ∗ (I ∗ (B ∗ V)))))) := by
  unfold Tok4 Bck
  iintro ⟨Ho, HX, HI, HS, HB, HV, HO, #HR, Hc, Ha⟩
  ihave Ha := (split_self (F := F) c _) $$ Ha
  icases Ha with ⟨Hself, Ha⟩
  imod (Rounds.cell_close ER (sched snd) (Set.mem_univ (K (c, some (kSend c)))) (fun h => h) (R := 0) (send_self_empty c snd)) $$ [Hself] with Hz
  · isplitr; · iapply (inv_at snd K (c, some (kSend c))); iexact HR
    iexact Hself
  imodintro
  isplitl [HO HS Hz Hc Ha]
  · isplitr; · iexact HR
    isplitl [Hc Ha]
    · rw [todo_others]
      iapply (both (F := F) _ _ _)
      isplitl [Hc] <;> iassumption
    isplitl [HS Hz]
    · rw [seen_self, bigSep_singleton]
      isplitl [HS] <;> iassumption
    iexact HO
  isplitl [Ho]; · iexact Ho
  isplitl [HX]; · iexact HX
  isplitl [HI]; · iexact HI
  isplitl [HB] <;> iassumption

/-- What a device has at the end, its buffers apart. -/
def Done : sProp 𝕄 :=
  iprop((bigSep Finset.univ fun d => semVal (sendCell c d) 0) ∗ (bigSep Finset.univ fun s => semVal (recvCell c s) 0) ∗ semVal (barCell c) 0)

/-- To the end. -/
theorem to_end {O X I : sProp 𝕄} :
    iprop(Bck snd K c 32 ∗ (O ∗ (X ∗ (I ∗ (semVal (barCell c) 0 ∗ bigSep Finset.univ fun s => semVal (recvCell c s) 0)))))
      ⊢ iprop(Done (F := F) c ∗ (((c : Thread nD τ).loc cc0_scratch0) ↦{fullShare} snd c) ∗ X ∗ (∃ W, owes (c : Thread nD τ) 0 W) ∗ I ∗ O) := by
  unfold Bck Done
  rw [seen_every, sPts_whole]
  iintro ⟨⟨-, -, Hg, HO⟩, Ho, HX, HI, HB, HV⟩
  ihave Hg := (apart (F := F) _ _ _) $$ Hg
  icases Hg with ⟨Hs, Hz⟩
  isplitl [Hz HV HB]
  · isplitl [Hz]; · iexact Hz
    isplitl [HV] <;> iassumption
  isplitl [Hs]; · iexact Hs
  isplitl [HX]; · iexact HX
  isplitl [HO]; · iexact HO
  isplitl [HI] <;> iassumption

end Cert.MoE

end
-- ==== Proof.Proof.Body.lean ====
/-
# The kernel's body on one device

The body run from what a device starts with to what it ends with, one rule per operation in program order.
-/
module

public import proofs.«01_k».proof.Proof.Proof.Phases

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

theorem swap {P Q : sProp 𝕄} : iprop(P ∗ Q) ⊢ iprop(Q ∗ P) := by
  iintro ⟨H, H'⟩
  isplitl [H'] <;> iassumption
theorem swap3 {P Q R : sProp 𝕄} : iprop(P ∗ (Q ∗ R)) ⊢ iprop(Q ∗ (P ∗ R)) := by
  iintro ⟨H, H', HR⟩
  isplitl [H']; · iexact H'
  isplitl [H] <;> iassumption
theorem regroup_r {P Q R : sProp 𝕄} : iprop((P ∗ Q) ∗ R) ⊢ iprop(P ∗ (Q ∗ R)) := by
  iintro ⟨⟨H, H'⟩, HR⟩
  isplitl [H]; · iexact H
  isplitl [H'] <;> iassumption
theorem third_first {P Q R S : sProp 𝕄} : iprop(P ∗ (Q ∗ (R ∗ S))) ⊢ iprop(R ∗ ((P ∗ Q) ∗ S)) := by
  iintro ⟨H, H', HR, HS⟩
  isplitl [HR]; · iexact HR
  isplitr [HS]; · (isplitl [H] <;> iassumption)
  iexact HS
theorem fourth_first {P Q R S T : sProp 𝕄} : iprop(P ∗ ((Q ∗ R) ∗ (S ∗ T))) ⊢ iprop(S ∗ (R ∗ (Q ∗ (P ∗ T)))) := by
  iintro ⟨H, ⟨H', HR⟩, HS, HT⟩
  isplitl [HS]; · iexact HS
  isplitl [HR]; · iexact HR
  isplitl [H']; · iexact H'
  isplitl [H] <;> iassumption
theorem open_self {c : Dev nD} {P R : sProp 𝕄} (h : ∀ f, iprop(rPts (F := F) c c f ∗ R) ⊢ P) : iprop(SelfSlot (F := F) c ∗ R) ⊢ P := by
  unfold SelfSlot
  iintro ⟨⟨%f, H⟩, HR⟩
  iapply (h f)
  isplitl [H] <;> iassumption

/-! ## The offsets, by how many places on or back the other device is -/

section Offsets

variable (c : Dev nD) {k : ℕ} (h1 : 1 ≤ k) (hk : k < 32) {b : BitVec 32} (hb : b = BitVec.ofNat 32 k)

include h1 hk hb

theorem off2_at : k0_off2 c b = ![(after c k).val] := by
  have h := k0_off2_eq c ⟨k - 1, by omega⟩
  have e : 1 + (k - 1) = k := by omega
  have e' : c.val + (k - 1) + 1 = c.val + k := by omega
  simp only [e, e'] at h
  rw [hb]; exact h
theorem off5_at : k0_off5 c b = ![(c.val + k) % 32, 0, 0] := by
  have h := k0_off5_eq c ⟨k - 1, by omega⟩
  have e : 1 + (k - 1) = k := by omega
  have e' : c.val + (k - 1) + 1 = c.val + k := by omega
  simp only [e, e'] at h
  rw [hb]; exact h
theorem off6_at : k0_off6 c b = ![(before c k).val] := by
  have h := k0_off6_eq c ⟨k - 1, by omega⟩
  have e : 1 + (k - 1) = k := by omega
  have e' : c.val + 31 - (k - 1) = c.val + 32 - k := by omega
  simp only [e, e'] at h
  rw [hb]; exact h

end Offsets

set_option maxRecDepth 20000 in
set_option maxHeartbeats 4000000 in
theorem run_body (A : Dev nD → Args F) (K : Dev nD × Option (Fin 64) → ℕ) (c : Dev nD) (o : Vec F S16x512 .f32) (Q : PUnit → sProp 𝕄)
    (hQ : iprop(Done (F := F) c ∗ (((c : Thread nD τ).loc cc0_scratch0) ↦{fullShare} sent A c) ∗ RBuf c (received (sent A) c)
      ∗ (∃ W, owes (c : Thread nD τ) 0 W) ∗ Ins c (A c) ∗ Out c (outOf A c)) ⊢ Q ⟨⟩) :
    iprop(Held c (sent A) K ∗ (∃ f : Blocks F, ((c : Thread nD τ).loc cc0_scratch0) ↦{fullShare} f) ∗ (∃ f, RBuf (F := F) c f)
        ∗ (∃ W, owes (c : Thread nD τ) (O₀ c) W) ∗ (Ins c (A c) ∗ Out c o))
      ⊢ WP c (cc0_body xM (Memref.isWhole_whole _) wM (Memref.isWhole_whole _) iM (Memref.isWhole_whole _) eM (Memref.isWhole_whole _)
          oM (Memref.isWhole_whole _) sM (Memref.isWhole_whole _) rM (Memref.isWhole_whole _) cc0_scratch2 cc0_scratch3) Q := by
  refine (to_signals c (sent A) K).trans ?_
  simp only [cc0_body_eq_skeleton]
  unfold cc0_body_skel
  simp only [WP_bind]
  -- the signals
  simp only [k0_part1_eq_skeleton, k0_part1_skel, semSignalWord, semWaitWord, Prog.lift, Prog.bind_op, Prog.bind_ret, Prog.pure_eq_ret, WP_deviceId]
  iterate 5 refine signal_step (sent A) K c (by decide) (by decide) (by simp only [k0_dev1_eq, k0_dev2_eq, k0_dev3_eq, k0_dev4_eq, k0_dev5_eq]) ?_
  refine ret_step ?_
  simp only [k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel,
    semSignalWord, semWaitWord, Prog.lift, Prog.bind_op, Prog.bind_ret, Prog.pure_eq_ret, WP_deviceId]
  iterate 30 first
    | refine ret_step ?_
    | refine signal_step (sent A) K c (by decide) (by decide) (by simp only [k0_dev6_eq, k0_dev7_eq, k0_dev8_eq, k0_dev9_eq, k0_dev10_eq, k0_dev11_eq, k0_dev12_eq, k0_dev13_eq, k0_dev14_eq,
        k0_dev15_eq, k0_dev16_eq, k0_dev17_eq, k0_dev18_eq, k0_dev19_eq, k0_dev20_eq, k0_dev21_eq, k0_dev22_eq, k0_dev23_eq,
        k0_dev24_eq, k0_dev25_eq, k0_dev26_eq, k0_dev27_eq, k0_dev28_eq, k0_dev29_eq, k0_dev30_eq, k0_dev31_eq]) ?_
  -- the loads
  refine (to_loads c (sent A) K).trans ?_
  refine (regroup_r (F := F)).trans ?_
  refine load_x (F := F) (a := A c) c ?_
  refine load_w (F := F) (a := A c) c ?_
  iterate 2 refine load_i (F := F) (a := A c) c ?_
  refine ret_step ?_
  refine load_x (F := F) (a := A c) c ?_
  iterate 2 refine load_e (F := F) (a := A c) c ?_
  refine ret_step ?_
  -- the blocks to send
  refine (third_first (F := F)).trans ?_
  simp only [k0_part8_eq_skeleton, k0_part8_skel, k0_part9_eq_skeleton, k0_part9_skel, k0_part10_eq_skeleton, k0_part10_skel,
    k0_part11_eq_skeleton, k0_part11_skel, k0_part12_eq_skeleton, k0_part12_skel, k0_part13_eq_skeleton, k0_part13_skel,
    k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel,
    k0_part20_eq_skeleton, k0_part20_skel, k0_part21_eq_skeleton, k0_part21_skel, k0_part22_eq_skeleton, k0_part22_skel,
    k0_part23_eq_skeleton, k0_part23_skel,
    semSignalWord, semWaitWord, Prog.lift, Prog.bind_op, Prog.bind_ret, Prog.pure_eq_ret, WP_deviceId]
  iterate 68 first
    | refine ret_step ?_
    | refine fill_load (sent A) c fun _ => ?_
    | refine fill_store (sent A) c (by decide) rfl (fun x y => piece_eq A c _ rfl (by decide) rfl _ x y) ?_
  -- the block it keeps
  refine filled_load (sent A) c c (k0_off1_eq c) fun v hv => ?_
  refine (third_first (F := F)).trans (open_self fun f => ?_)
  refine rslot_load c c (k0_off1_eq c) fun _ => ?_
  refine ret_step ?_
  refine rslot_store c c (k0_off1_eq c) (g := received (sent A) c) (fun x y => (recast_eq v x y).trans (hv x y)) ?_
  -- the barrier
  refine (fourth_first (F := F)).trans ?_
  refine barrier_step (sent A) K c ?_
  refine (to_sends c (sent A) K).trans ?_
  -- the transfers
  iterate 42 first
    | refine ret_step ?_
    | refine send_step (sent A) K c (by decide) (by decide) (by simp only [k0_dev32_eq, k0_dev33_eq, k0_dev34_eq, k0_dev35_eq, k0_dev36_eq, k0_dev37_eq, k0_dev38_eq, k0_dev39_eq, k0_dev40_eq,
        k0_dev41_eq, k0_dev42_eq, k0_dev43_eq, k0_dev44_eq, k0_dev45_eq, k0_dev46_eq, k0_dev47_eq, k0_dev48_eq, k0_dev49_eq,
        k0_dev50_eq, k0_dev51_eq, k0_dev52_eq, k0_dev53_eq, k0_dev54_eq, k0_dev55_eq, k0_dev56_eq, k0_dev57_eq, k0_dev58_eq,
        k0_dev59_eq, k0_dev60_eq, k0_dev61_eq, k0_dev62_eq])
        (k0_off4_eq c) (off5_at c (by decide) (by decide) rfl) (send_sem _ (off2_at c (by decide) (by decide) rfl)) (recv_sem _ (k0_off3_eq c)) ?_
  refine upd_step (to_recvs c (sent A) K) ?_
  -- the waits for the others' transfers
  simp only [k0_part24_eq_skeleton, k0_part24_skel, k0_part25_eq_skeleton, k0_part25_skel, k0_part26_eq_skeleton, k0_part26_skel,
    k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel,
    k0_part33_eq_skeleton, k0_part33_skel, k0_part34_eq_skeleton, k0_part34_skel,
    semSignalWord, semWaitWord, Prog.lift, Prog.bind_op, Prog.bind_ret, Prog.pure_eq_ret, WP_deviceId]
  iterate 41 first
    | refine ret_step ?_
    | refine recv_step (sent A) K c (by decide) (by decide) (recv_sem _ (off6_at c (by decide) (by decide) rfl)) (send_credit rM _ (Or.inr rfl)) ?_
  -- the sum
  refine (to_sum c (sent A) K).trans ?_
  refine load_r c ?_
  refine (swap3 (F := F)).trans ?_
  refine load_o c fun _ => ?_
  refine store_o c (g := outOf A c) ?_
  refine ret_step ?_
  refine upd_step (to_backs c (sent A) K) ?_
  -- the waits for its own transfers
  simp only [k0_part35_eq_skeleton, k0_part35_skel, k0_part36_eq_skeleton, k0_part36_skel, k0_part37_eq_skeleton, k0_part37_skel,
    k0_part38_eq_skeleton, k0_part38_skel, k0_part39_eq_skeleton, k0_part39_skel, k0_part40_eq_skeleton, k0_part40_skel,
    semSignalWord, semWaitWord, Prog.lift, Prog.bind_op, Prog.bind_ret, Prog.pure_eq_ret, WP_deviceId]
  iterate 39 first
    | refine ret_step ?_
    | refine back_step (sent A) K c (by decide) (by decide) (send_sem _ (off2_at c (by decide) (by decide) rfl)) (send_credit sM _ (Or.inl rfl)) ?_
  exact (to_end c (sent A) K).trans hQ

end Cert.MoE

end
-- ==== Proof.Proof.Launch.lean ====
/-
# The launch

What each device starts from is made at the launch: the cells' invariants, known to all; each device's positions at
its own cells; the right to perform each duty a device pays, dealt to that device from the outset; and, for what the
others owe it, the right to wait. With the body's rule this gives the run of the whole program: it terminates, every
semaphore is at zero, the arguments are as they were, and each device's result is the sum of what it received.
-/
module

public import proofs.«01_k».proof.Proof.Proof.Body
public import proofs.«01_k».proof.Proof.Gen.KernelIdeal.Points
public import Idealize.ShloMosaic.Lib.Pipeline.CollectiveSegs
public import Idealize.ShloMosaic.Adequacy
public import Idealize.ShloMosaic.Init

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the body is run on -/

/-- Device `c`'s arguments, as the launch stages them. -/
def args (c : Dev nD) : Args F where
  x := (win0_0.blk (0 : Fin 1)).view.read (Elt F) ((s₀ m ρ).mem ((c : Thread nD τ).loc main_arg0))
  w := (win0_1.blk (0 : Fin 1)).view.read (Elt F) ((s₀ m ρ).mem ((c : Thread nD τ).loc main_arg1))
  i := (win0_2.blk (0 : Fin 1)).view.read (Elt F) ((s₀ m ρ).mem ((c : Thread nD τ).loc main_arg2))
  e := (win0_3.blk (0 : Fin 1)).view.read (Elt F) ((s₀ m ρ).mem ((c : Thread nD τ).loc main_arg3))

/-- What every device sends. -/
abbrev snd₀ : Dev nD → Blocks F := sent (args m ρ)

/-- What a device starts from. -/
def Start (c : Dev nD) : sProp 𝕄 := iprop(∃ K, Held c (snd₀ m ρ) K)
def Before (c : Dev nD) : sProp 𝕄 :=
  iprop(Start m ρ c ∗ (∃ f : Blocks F, ((c : Thread nD τ).loc cc0_scratch0) ↦{fullShare} f) ∗ (∃ f : Blocks F, ((c : Thread nD τ).loc cc0_scratch1) ↦{fullShare} f))
/-- What it ends with. -/
def After (c : Dev nD) : sProp 𝕄 :=
  iprop(Done (F := F) c ∗ (∃ f : Blocks F, ((c : Thread nD τ).loc cc0_scratch0) ↦{fullShare} f) ∗ (∃ f : Blocks F, ((c : Thread nD τ).loc cc0_scratch1) ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m ρ c).x
    | ⟨1, _⟩ => (args m ρ c).w
    | ⟨2, _⟩ => (args m ρ c).i
    | ⟨3, _⟩ => (args m ρ c).e
    | ⟨4, _⟩ => outOf (args m ρ) c
  Φ t := match t with
    | ⟨0, _⟩ => Before m ρ c
    | ⟨_ + 1, _⟩ => After (F := F) c
  q _ := fullShare
  owed t := match t with
    | ⟨0, _⟩ => O₀ c
    | ⟨_ + 1, _⟩ => 0

theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Buffer `b` of device `c`, whole, at contents equal to `X`. -/
def At (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem at_intro (c : Dev nD) (b : Ref sig .tc) (X : b.ty.Contents (Elt F)) : (((c : Thread nD τ).loc b) ↦{fullShare} X) ⊢ (At c b X : sProp 𝕄) := by
  unfold At
  iintro H
  iexists X
  isplitr
  · ipureintro; rfl
  iexact H
theorem at_elim (c : Dev nD) (b : Ref sig .tc) {X Y : b.ty.Contents (Elt F)} (h : X = Y) : (At c b X : sProp 𝕄) ⊢ (((c : Thread nD τ).loc b) ↦{fullShare} Y) := by
  subst h
  unfold At
  iintro ⟨%f, %hf, H⟩
  subst hf
  iexact H

def BodyIn (c : Dev nD) : sProp 𝕄 :=
  iprop(Before m ρ c ∗ (dats m ρ 0 c).owesAt () t0_0.castSucc
    ∗ (∃ d, At c cc0_stg0_0 ((dats m ρ 0 c).before (0 : Fin 5) t0_0 d))
    ∗ (∃ d, At c cc0_stg1_0 ((dats m ρ 0 c).before (1 : Fin 5) t0_0 d))
    ∗ (∃ d, At c cc0_stg2_0 ((dats m ρ 0 c).before (2 : Fin 5) t0_0 d))
    ∗ (∃ d, At c cc0_stg3_0 ((dats m ρ 0 c).before (3 : Fin 5) t0_0 d))
    ∗ (∃ d, At c cc0_stg4_0 ((dats m ρ 0 c).before (4 : Fin 5) t0_0 d)))
def BodyOut (c : Dev nD) : sProp 𝕄 :=
  iprop(After (F := F) c ∗ (dats m ρ 0 c).owesAt () t0_0.succ
    ∗ At c cc0_stg0_0 (args m ρ c).x ∗ At c cc0_stg1_0 (args m ρ c).w ∗ At c cc0_stg2_0 (args m ρ c).i ∗ At c cc0_stg3_0 (args m ρ c).e
    ∗ At c cc0_stg4_0 (outOf (args m ρ) c))

theorem before_x (c : Dev nD) (d) : (dats m ρ 0 c).before (0 : Fin 5) t0_0 d = (args m ρ c).x := by unfold Dat.before; rw [if_pos (fetch0_0 t0_0)]; rfl
theorem before_w (c : Dev nD) (d) : (dats m ρ 0 c).before (1 : Fin 5) t0_0 d = (args m ρ c).w := by unfold Dat.before; rw [if_pos (fetch0_1 t0_0)]; rfl
theorem before_i (c : Dev nD) (d) : (dats m ρ 0 c).before (2 : Fin 5) t0_0 d = (args m ρ c).i := by unfold Dat.before; rw [if_pos (fetch0_2 t0_0)]; rfl
theorem before_e (c : Dev nD) (d) : (dats m ρ 0 c).before (3 : Fin 5) t0_0 d = (args m ρ c).e := by unfold Dat.before; rw [if_pos (fetch0_3 t0_0)]; rfl

theorem body_out (c : Dev nD) :
    iprop(Done (F := F) c ∗ (((c : Thread nD τ).loc cc0_scratch0) ↦{fullShare} snd₀ m ρ c) ∗ RBuf c (received (snd₀ m ρ) c)
      ∗ (∃ W, owes (c : Thread nD τ) 0 W) ∗ Ins c (args m ρ c) ∗ Out c (outOf (args m ρ) c)) ⊢ BodyOut m ρ c := by
  unfold BodyOut After Ins Out RBuf
  iintro ⟨HD, Hs, Hr, ⟨%W, HO⟩, ⟨Hx, Hw, Hi, He⟩, Ho⟩
  isplitl [HD Hs Hr]
  · isplitl [HD]; · iexact HD
    isplitl [Hs]
    · iexists _; iexact Hs
    iexists _; iexact Hr
  isplitl [HO]
  · unfold Dat.owesAt Pipeline.owesWithin
    iexists W
    isplitr; · ipureintro; exact fun _ _ => Or.inl trivial
    iexact HO
  isplitl [Hx]; · iapply (at_intro (F := F) c cc0_stg0_0 _); iexact Hx
  isplitl [Hw]; · iapply (at_intro (F := F) c cc0_stg1_0 _); iexact Hw
  isplitl [Hi]; · iapply (at_intro (F := F) c cc0_stg2_0 _); iexact Hi
  isplitl [He]; · iapply (at_intro (F := F) c cc0_stg3_0 _); iexact He
  iapply (at_intro (F := F) c cc0_stg4_0 _); iexact Ho

theorem body_in (c : Dev nD) :
    BodyIn m ρ c ⊢ wp frame (wpE (defs₀ (F := F)) 𝒱₀ (c : Thread nD τ) none) Set.univ
      (cc0_body xM (Memref.isWhole_whole _) wM (Memref.isWhole_whole _) iM (Memref.isWhole_whole _) eM (Memref.isWhole_whole _)
          oM (Memref.isWhole_whole _) sM (Memref.isWhole_whole _) rM (Memref.isWhole_whole _) cc0_scratch2 cc0_scratch3) (fun _ => BodyOut m ρ c) := by
  unfold BodyIn Before Start
  iintro ⟨⟨⟨%K, HH⟩, Hs, Hr⟩, HO, ⟨%d0, Hx⟩, ⟨%d1, Hw⟩, ⟨%d2, Hi⟩, ⟨%d3, He⟩, ⟨%d4, Ho⟩⟩
  have h := run_body (args m ρ) K c ((dats m ρ 0 c).before (4 : Fin 5) t0_0 d4) (fun _ => BodyOut m ρ c) (body_out m ρ c)
  unfold WP at h
  iapply h
  isplitl [HH]; · iexact HH
  isplitl [Hs]; · iexact Hs
  isplitl [Hr]; · unfold RBuf; iexact Hr
  isplitl [HO]
  · unfold Dat.owesAt Pipeline.owesWithin
    icases HO with ⟨%W, -, HO⟩
    iexists W
    rw [show (dats m ρ 0 c).owed t0_0.castSucc = O₀ c from rfl]
    iexact HO
  isplitr [Ho]
  · unfold Ins
    isplitl [Hx]; · iapply (at_elim (F := F) c cc0_stg0_0 (before_x m ρ c d0)); iexact Hx
    isplitl [Hw]; · iapply (at_elim (F := F) c cc0_stg1_0 (before_w m ρ c d1)); iexact Hw
    isplitl [Hi]; · iapply (at_elim (F := F) c cc0_stg2_0 (before_i m ρ c d2)); iexact Hi
    iapply (at_elim (F := F) c cc0_stg3_0 (before_e m ρ c d3)); iexact He
  unfold Out
  iapply (at_elim (F := F) c cc0_stg4_0 rfl); iexact Ho

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [owns_buffer]
  show BodyIn m ρ c ⊢ wp frame (wpE (defs₀ (F := F)) 𝒱₀ (c : Thread nD τ) none) Set.univ
      (cc0_body xM (Memref.isWhole_whole _) wM (Memref.isWhole_whole _) iM (Memref.isWhole_whole _) eM (Memref.isWhole_whole _)
          oM (Memref.isWhole_whole _) sM (Memref.isWhole_whole _) rM (Memref.isWhole_whole _) cc0_scratch2 cc0_scratch3) (fun _ => BodyOut m ρ c)
  exact body_in m ρ c

/-! ## The cells and the tokens -/

theorem own_sem_facts : Pipeline.OwnSemFacts cfg0.spec osem := by decide

theorem full_share (c : Dev nD) (w : Fin cfg0.W) : (dats m ρ 0 c).share w = fullShare := by unfold Dat.share; split <;> rfl

theorem osem_inj : Function.Injective osem := fun a b h => by
  have h' : 5 + a.val = 5 + b.val := congrArg (fun s : SemLoc sig => match s with | .reg _ => 0 | .dma q => q.val) h
  exact Fin.ext (by omega)
theorem csem_inj : Function.Injective csem := by
  rintro (_ | a) (_ | b) h
  · rfl
  · exact absurd h (by unfold csem osem; exact fun h => by cases h)
  · exact absurd h (by unfold csem osem; exact fun h => by cases h)
  · exact congrArg some (osem_inj h)
theorem kcell_inj : Function.Injective kcell := fun a b h =>
  Prod.ext (congrArg (fun g : GSem nD τ sig => g.1.1) h) (csem_inj (congrArg Prod.snd h))
def cellSet : Finset (GSem nD τ sig) := Finset.univ.map ⟨kcell, kcell_inj⟩

/-- The duties device `c` pays towards device `d`: the signal to its barrier, its own send cell's, `d`'s receive cell's. -/
def duty (p : Dev nD × Dev nD × Fin 3) : GSem nD τ sig × ℕ × Dev nD := match p.2.2 with
  | 0 => (barCell p.2.1, 0, p.1)
  | 1 => (sendCell p.1 p.2.1, 0, p.1)
  | 2 => (recvCell p.2.1 p.1, 0, p.1)
theorem sendS_ne_recvS (a b : Dev nD) : (SemLoc.dma (sendS a) : SemLoc sig) ≠ .dma (recvS b) := fun h => by
  have h' : 5 + a.val = 37 + b.val := congrArg (fun s : SemLoc sig => match s with | .reg _ => 0 | .dma q => q.val) h
  have : a.val < 32 := a.isLt
  omega
theorem sendS_inj {a b : Dev nD} (h : (SemLoc.dma (sendS a) : SemLoc sig) = .dma (sendS b)) : a = b := by
  have h' : 5 + a.val = 5 + b.val := congrArg (fun s : SemLoc sig => match s with | .reg _ => 0 | .dma q => q.val) h
  exact Fin.ext (by omega)
theorem recvS_inj {a b : Dev nD} (h : (SemLoc.dma (recvS a) : SemLoc sig) = .dma (recvS b)) : a = b := by
  have h' : 37 + a.val = 37 + b.val := congrArg (fun s : SemLoc sig => match s with | .reg _ => 0 | .dma q => q.val) h
  exact Fin.ext (by omega)
theorem duty_inj : Function.Injective duty := by
  rintro ⟨c, d, j⟩ ⟨c', d', j'⟩ h
  have hc : c = c' := by
    have := congrArg (fun x : GSem nD τ sig × ℕ × Dev nD => x.2.2) h
    fin_cases j <;> fin_cases j' <;> exact this
  subst hc
  have hs := congrArg (fun x : GSem nD τ sig × ℕ × Dev nD => x.1.2) h
  have hd := congrArg (fun x : GSem nD τ sig × ℕ × Dev nD => x.1.1.1) h
  fin_cases j <;> fin_cases j' <;> first
    | exact absurd hs (sendS_ne_recvS _ _)
    | exact absurd hs.symm (sendS_ne_recvS _ _)
    | (obtain rfl : d = d' := hd; rfl)
    | (obtain rfl : d = d' := sendS_inj hs; rfl)
    | exact absurd hs (fun h => by cases h)
def dutySet : Finset (GSem nD τ sig × ℕ × Dev nD) := Finset.univ.map ⟨duty, duty_inj⟩

def u₀ : UU := (initOf (Pipeline.cells cfgs cellOf_inj) (Pipeline.launchToks cfgs cellOf_inj), initOf cellSet dutySet)

/-- The tokens of the duties device `c` pays. -/
def Pays (c : Dev nD) : sProp 𝕄 :=
  bigSep Finset.univ fun d : Dev nD => iprop(dutyTok ER (barCell d) 0 c ∗ dutyTok ER (sendCell c d) 0 c ∗ dutyTok ER (recvCell d c) 0 c)

/-- Device `c`'s share of what is made before the launch. -/
def G (c : Dev nD) : sProp 𝕄 :=
  iprop((bigSep Finset.univ fun k : Option (Fin 64) => roundState ER (sched (snd₀ m ρ)) (kcell (c, k)) 0)
    ∗ (bigSep Finset.univ fun k : Option (Fin 64) => atPos ER (kcell (c, k)) 0 ∅ 0)
    ∗ (bigSep Finset.univ fun k : Option (Fin 64) => reached ER (kcell (c, k)) 0) ∗ Pays (F := F) c)

theorem three (Φ : Fin 3 → sProp 𝕄) : bigSep Finset.univ Φ = iprop(Φ 0 ∗ Φ 1 ∗ Φ 2) := bigSep_univ_eq_bigSepL [0, 1, 2] (by decide) (by decide) Φ

theorem over_cells (Φ : GSem nD τ sig → sProp 𝕄) :
    bigSep cellSet Φ = bigSep Finset.univ fun c : Dev nD => bigSep Finset.univ fun k : Option (Fin 64) => Φ (kcell (c, k)) := by
  unfold cellSet; rw [bigSep_map, bigSep_univ_prod]; rfl
theorem over_duties : bigSep dutySet (fun x => (dutyTok ER x.1 x.2.1 x.2.2 : sProp 𝕄)) = bigSep Finset.univ fun c : Dev nD => Pays c := by
  unfold dutySet
  rw [bigSep_map, bigSep_univ_prod]
  refine bigSep_congr fun c _ => ?_
  rw [bigSep_univ_prod]
  unfold Pays
  exact bigSep_congr fun d _ => by rw [three]; rfl

theorem make_shares : BI.own (ER (initOf cellSet dutySet)) ⊢ (|==> bigSep Finset.univ (G m ρ) : sProp 𝕄) := by
  iintro HX
  imod (Rounds.fund ER (sched (snd₀ m ρ)) cellSet dutySet) $$ HX with ⟨Hst, Hr, Hat, Htok⟩
  imodintro
  ihave Hst := (Entails.of_eq (over_cells (F := F) fun g => roundState ER (sched (snd₀ m ρ)) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_duties (F := F))) $$ Htok
  unfold G
  iapply (both (F := F) _ _ _)
  isplitl [Hst]; · iexact Hst
  iapply (both (F := F) _ _ _)
  isplitl [Hat]; · iexact Hat
  iapply (both (F := F) _ _ _)
  isplitl [Hr] <;> iassumption

/-! ## The semaphores -/

theorem over_own (Φ : Fin 64 → sProp 𝕄) :
    bigSep Finset.univ Φ = iprop((bigSep Finset.univ fun d : Dev nD => Φ (kSend d)) ∗ bigSep Finset.univ fun s : Dev nD => Φ (kRecv s)) := by
  rw [bigSep_univ_equiv (finSumFinEquiv (m := 32) (n := 32)), bigSep_univ_sum]; rfl
theorem over_all (Φ : Option (Fin 64) → sProp 𝕄) : bigSep Finset.univ Φ = iprop(Φ none ∗ bigSep Finset.univ fun k : Fin 64 => Φ (some k)) := by
  rw [bigSep_univ_equiv ((Equiv.sumComm PUnit (Fin 64)).trans (Equiv.optionEquivSumPUnit.{0} (Fin 64)).symm), bigSep_univ_sum,
    bigSep_univ_of_subsingleton PUnit.unit]
  rfl
theorem own_sems (c : Dev nD) : (Pipeline.ownSems0 (Ix := Unit) (Name := ℕ) (U := UU) (Lvl := ℕ) (Val := Elt F) (τ := τ) osem c : sProp 𝕄)
    = iprop((bigSep Finset.univ fun d => semVal (sendCell c d) 0) ∗ bigSep Finset.univ fun s => semVal (recvCell c s) 0) := by
  unfold Pipeline.ownSems0
  rw [over_own]
  simp only [← kcell_send, ← kcell_recv]
  rfl
theorem free_sem (c : Dev nD) : (unscopedSems0 c : sProp 𝕄) = semVal (barCell c) 0 := by
  unfold unscopedSems0; rw [bigSep_eq_bigSepL_of_eq [SemLoc.reg barS] (by decide) (by decide)]; rfl
theorem all_sems (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 64) => semVal (kcell (c, k)) 0 : sProp 𝕄) := by
  rw [over_all, free_sem]
  iintro ⟨HO, HB⟩
  isplitl [HB]; · iexact HB
  unfold Pipeline.ownSems0; iexact HO

/-! ## The step for all devices together -/

theorem alloc_cells (c : Dev nD) :
    iprop((bigSep Finset.univ fun k : Option (Fin 64) => semVal (kcell (c, k)) 0)
        ∗ bigSep Finset.univ fun k : Option (Fin 64) => roundState ER (sched (snd₀ m ρ)) (kcell (c, k)) 0)
      ⊢ (|={Set.univ}=> bigSep Finset.univ fun k : Option (Fin 64) => iprop(∃ κ : ℕ, cellInv ER (sched (snd₀ m ρ)) κ (kcell (c, k))) : sProp 𝕄) :=
  (both (F := F) _ _ _).trans
    ((bigSep_mono fun k _ => (Rounds.body_intro ER (sched (snd₀ m ρ)) (kcell (c, k))).trans inv_alloc).trans (bigSep_fupd _ _))

/-- One device's share, its invariants allocated. -/
def Mid (c : Dev nD) : sProp 𝕄 :=
  iprop((bigSep Finset.univ fun k : Option (Fin 64) => iprop(∃ κ : ℕ, cellInv ER (sched (snd₀ m ρ)) κ (kcell (c, k))))
    ∗ (bigSep Finset.univ fun k : Option (Fin 64) => atPos ER (kcell (c, k)) 0 ∅ 0)
    ∗ (bigSep Finset.univ fun k : Option (Fin 64) => reached ER (kcell (c, k)) 0) ∗ Pays (F := F) c)

theorem to_mid (c : Dev nD) :
    iprop(Pipeline.ownSems0 (Ix := Unit) (Name := ℕ) (U := UU) (Lvl := ℕ) (Val := Elt F) (τ := τ) osem c ∗ unscopedSems0 c ∗ G m ρ c)
      ⊢ |={Set.univ}=> (Mid m ρ c) := by
  unfold G Mid
  iintro ⟨Hos, Hus, Hst, HT⟩
  ihave Hv := (all_sems (F := F) c) $$ [Hos Hus]
  · isplitl [Hos] <;> iassumption
  imod (alloc_cells m ρ c) $$ [Hv Hst] with HI
  · isplitl [Hv] <;> iassumption
  imodintro
  isplitl [HI] <;> iassumption

/-- What a device has of the exchange before it is told what it may wait for. -/
def Own (c : Dev nD) : sProp 𝕄 := iprop((bigSep Finset.univ fun k : Option (Fin 64) => atPos ER (kcell (c, k)) 0 ∅ 0) ∗ Pays (F := F) c)
def G' (c : Dev nD) : sProp 𝕄 := iprop(∃ K, records (snd₀ m ρ) K ∗ Own (F := F) c)

theorem own_intro (K : Dev nD × Option (Fin 64) → ℕ) (c : Dev nD) : iprop(records (snd₀ m ρ) K ∗ Own (F := F) c) ⊢ G' m ρ c := by
  unfold G'
  iintro H
  iexists K
  iexact H

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  iintro ⟨#HR, H⟩
  iapply ((both (F := F) S (fun _ => R) Φ).trans (bigSep_mono h))
  isplitr
  · iapply (BI.bigSep_of_persistent S R); iexact HR
  iexact H

theorem to_records : bigSep Finset.univ (Mid m ρ) ⊢ bigSep Finset.univ (G' m ρ) := by
  unfold Mid
  iintro H
  ihave H := (apart (F := F) _ _ _) $$ H
  icases H with ⟨HI, H⟩
  ihave H := (apart (F := F) _ _ _) $$ H
  icases H with ⟨Ha, H⟩
  ihave H := (apart (F := F) _ _ _) $$ H
  icases H with ⟨HR, HP⟩
  ihave HI := (Entails.of_eq (bigSep_univ_prod (fun ck : Dev nD × Option (Fin 64) => iprop(∃ κ : ℕ, cellInv ER (sched (snd₀ m ρ)) κ (kcell ck) : sProp 𝕄))).symm) $$ HI
  ihave HR := (Entails.of_eq (bigSep_univ_prod (fun ck : Dev nD × Option (Fin 64) => (reached ER (kcell ck) 0 : sProp 𝕄))).symm) $$ HR
  ihave HI := (BI.bigSep_exists_pi Finset.univ (fun (ck : Dev nD × Option (Fin 64)) (κ : ℕ) => (cellInv ER (sched (snd₀ m ρ)) κ (kcell ck) : sProp 𝕄))) $$ HI
  icases HI with ⟨%K, HI⟩
  iapply (with_all (F := F) (R := records (snd₀ m ρ) K) fun c _ => own_intro m ρ K c)
  isplitl [HI HR]
  · unfold records
    isplitl [HI] <;> iassumption
  unfold Own
  iapply (both (F := F) _ _ _)
  isplitl [Ha] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => to_mid m ρ c).trans (bigSep_fupd _ _)).trans (BI.fupd_mono (to_records m ρ))

/-! ## What the others owe a device -/

theorem sum_at {ι : Type} (S : Finset ι) (T : ι → CellTallies nD τ sig Unit) (g : GSem nD τ sig) :
    (∑ i ∈ S, T i) g () = ∑ i ∈ S, T i g () := by
  classical
  induction S using Finset.induction_on with
  | empty => rw [Finset.sum_empty, Finset.sum_empty]; rfl
  | insert i S hi ih => rw [Finset.sum_insert hi, Finset.sum_insert hi, Pi.add_apply, Finsupp.add_apply, ih]

/-- What device `d` owes in all, to the barrier cell of `c`: one unit, unless it is `c`. -/
theorem owed_bar (d c : Dev nD) : O₀ d (barCell c) () = if d = c then 0 else 1 := by
  unfold O₀ owedRecv owedBar
  rw [Pi.add_apply, Finsupp.add_apply, sum_at, sum_at, todo_others]
  rw [Finset.sum_eq_zero fun e _ => by rw [tallyAt_apply, if_neg fun h => by cases congrArg Prod.snd h.1], Nat.zero_add]
  have he : ∀ e : Dev nD, (tallyAt (barCell e) () 1 : CellTallies nD τ sig Unit) (barCell c) () = if e = c then 1 else 0 := fun e => by
    rw [tallyAt_apply]
    by_cases h : e = c
    · subst h; rw [if_pos ⟨rfl, rfl⟩, if_pos rfl]
    · rw [if_neg fun h' => h (congrArg (fun g : GSem nD τ sig => g.1.1) h'.1).symm, if_neg h]
  rw [Finset.sum_congr rfl fun e _ => he e, Finset.sum_ite_eq']
  by_cases h : d = c
  · rw [if_pos h, if_neg fun h' => (Finset.mem_erase.mp h').1 h.symm]
  · rw [if_neg h, if_pos (Finset.mem_erase.mpr ⟨fun h' => h h'.symm, Finset.mem_univ _⟩)]

/-- To the receive cell of `c` for `s`: a slot's credit, if it is `s` and not `c`. -/
theorem owed_recv (d : Dev nD) {c s : Dev nD} (hs : s ≠ c) : O₀ d (recvCell c s) () = if d = s then N else 0 := by
  unfold O₀ owedRecv owedBar
  rw [Pi.add_apply, Finsupp.add_apply, sum_at, sum_at, todo_others]
  rw [Finset.sum_eq_zero (s := Finset.univ.erase d) (f := fun e : Dev nD => (tallyAt (barCell e) () 1 : CellTallies nD τ sig Unit) (recvCell c s) ())
    fun e _ => by rw [tallyAt_apply, if_neg fun h => by cases congrArg Prod.snd h.1], Nat.add_zero]
  by_cases h : d = s
  · subst h
    have he : ∀ e : Dev nD, (tallyAt (recvCell e d) () N : CellTallies nD τ sig Unit) (recvCell c d) () = if e = c then N else 0 := fun e => by
      rw [tallyAt_apply]
      by_cases h : e = c
      · subst h; rw [if_pos ⟨rfl, rfl⟩, if_pos rfl]
      · rw [if_neg fun h' => h (congrArg (fun g : GSem nD τ sig => g.1.1) h'.1).symm, if_neg h]
    rw [if_pos rfl, Finset.sum_congr rfl fun e _ => he e, Finset.sum_ite_eq', if_pos (Finset.mem_erase.mpr ⟨fun h' => hs h'.symm, Finset.mem_univ _⟩)]
  · rw [if_neg h]
    exact Finset.sum_eq_zero fun e _ => by
      rw [tallyAt_apply, if_neg fun h' => h (recvS_inj (congrArg Prod.snd h'.1)).symm]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, ← Finset.add_sum_erase _ _ (Finset.mem_univ c), if_pos rfl,
    Nat.zero_add, Finset.sum_congr rfl fun d hd => if_neg (Finset.mem_erase.mp hd).1, Finset.sum_const, Finset.card_erase_of_mem (Finset.mem_univ _), Finset.card_univ,
    Fintype.card_fin, smul_eq_mul]; rfl
theorem launch_recv {c s : Dev nD} (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d hs, Finset.sum_ite_eq' Finset.univ s fun _ => N,
    if_pos (Finset.mem_univ _)]

theorem credits (c : Dev nD) :
    (Pipeline.launchCred O₀ c : sProp 𝕄) ⊢ iprop(cred (tallyAt (barCell c) () 31) ∗ others c fun s => cred (tallyAt (recvCell c s) () N)) := by
  unfold Pipeline.launchCred
  rw [bigSep_univ_at _ (SemLoc.reg barS), launch_bar]
  refine sep_mono_right ?_
  let f : Dev nD ↪ SemLoc sig := ⟨fun s => .dma (recvS s), fun _ _ h => recvS_inj h⟩
  refine (bigSep_subset (t := (Finset.univ.erase c).map f) fun x hx => ?_).trans ?_
  · obtain ⟨s, _, rfl⟩ := Finset.mem_map.mp hx
    exact Finset.mem_erase.mpr ⟨(fun h => by cases h), Finset.mem_univ _⟩
  · rw [bigSep_map]
    exact bigSep_mono fun s hs => Entails.of_eq (congrArg cred (launch_recv (Finset.mem_erase.mp hs).1))

/-! ## The side conditions -/

theorem but_self (c : Dev nD) (Φ : Dev nD → sProp 𝕄) : bigSep Finset.univ Φ ⊢ others c Φ := bigSep_subset (Finset.erase_subset _ _)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Start m ρ c ∗ emp) := by
  unfold G' Own Pays
  iintro ⟨-, Hlev, Hcr, -, ⟨%K, HR, Ha, HP⟩⟩
  ihave Hc := (credits (F := F) c) $$ Hcr
  icases Hc with ⟨HcB, HcR⟩
  ihave Ha := (Entails.of_eq (over_all (F := F) _)) $$ Ha
  icases Ha with ⟨HaB, Ha⟩
  ihave Ha := (Entails.of_eq (over_own (F := F) _)) $$ Ha
  icases Ha with ⟨HaS, HaR⟩
  ihave HP := (but_self (F := F) c _) $$ HP
  ihave HP := (apart (F := F) _ _ _) $$ HP
  icases HP with ⟨HdB, HP⟩
  ihave HP := (apart (F := F) _ _ _) $$ HP
  icases HP with ⟨HdS, HdR⟩
  imodintro
  isplitl
  · unfold Start Held Tok1 Tok2 Tok3 Tok4
    iexists K
    isplitl [HR]; · iexact HR
    isplitl [HdB]; · iexact HdB
    isplitl [HcB]; · iexact HcB
    isplitl [HaB]; · iexact HaB
    isplitl [Hlev]; · iexact Hlev
    isplitl [HdS]; · iexact HdS
    isplitl [HdR]; · iexact HdR
    isplitl [HcR]; · iexact HcR
    simp only [← kcell_send, ← kcell_recv]
    isplitl [HaR]; · iexact HaR
    iexact HaS
  · iempintro

theorem before_intro (c : Dev nD) :
    iprop(Start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Before m ρ c from rfl, scopedRest0_eq]
  unfold Before
  iintro ⟨Hs, -, Hr⟩
  isplitl [Hs]; · iexact Hs
  iexact Hr

theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = After (F := F) c from rfl, scopedRest0_eq, own_sems, free_sem]
  unfold After Done
  iintro ⟨⟨HS, HV, HB⟩, Hr⟩
  isplitl [HB]; · iexact HB
  isplitl [HS HV]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Device `c`'s array of window `w` at the end. -/
def final (c : Dev nD) (w : Fin cfg0.W) : Buf (Elt F) ((cfg0.win w).arr.view.loc (c : Thread nD τ)) := (dats m ρ 0 c).arrAt w cfg0.N

set_option maxRecDepth 20000 in
theorem run_main : θ_run defs (onTc (τ := τ) (main (F := F))) (s₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_sem_facts (Pipeline.PreFacts.none _) EP defs₀ 𝒱₀ m ρ main
    (hmain := fun _ => rfl)
    (hbody := body_obligation m ρ) (hne := block_pos0) (harr := arr_whole0) (hstage := stage_whole0) (hshare := full_share m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (make_shares m ρ) $$ HX with HG
      imodintro
      isplitl [HP] <;> iassumption)
    (hglob := glob m ρ)
    (hA := fun _ _ => rfl) (hpf := fun _ k => k.elim0)
    (X := Start m ρ) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold at the end what they held. -/
theorem final_x (c : Dev nD) : final m ρ c (0 : Fin 5) = m ((c : Thread nD τ).loc main_arg0) := (dats (F := F) m ρ 0 c).arrAt_in (0 : Fin 5) rfl _
theorem final_w (c : Dev nD) : final m ρ c (1 : Fin 5) = m ((c : Thread nD τ).loc main_arg1) := (dats (F := F) m ρ 0 c).arrAt_in (1 : Fin 5) rfl _
theorem final_i (c : Dev nD) : final m ρ c (2 : Fin 5) = m ((c : Thread nD τ).loc main_arg2) := (dats (F := F) m ρ 0 c).arrAt_in (2 : Fin 5) rfl _
theorem final_e (c : Dev nD) : final m ρ c (3 : Fin 5) = m ((c : Thread nD τ).loc main_arg3) := (dats (F := F) m ρ 0 c).arrAt_in (3 : Fin 5) rfl _

end Cert.MoE

end
-- ==== Proof.Proof.Framed.lean ====
/- The frame claims, read off the runs: the launched kernel's (`Launch.lean`) and the reference's (generated). -/
module

public import proofs.«01_k».proof.Defs
public import proofs.«01_k».proof.Proof.Gen.Kernel
public import proofs.«01_k».proof.Proof.Gen.ReferenceIdeal.Run
public import proofs.«01_k».proof.Proof.Proof.Launch
public import Idealize.ShloMosaic.Lib.Quiescent

@[expose] public section

noncomputable section

namespace Cert.MoE

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Every run of the kernel ends with device `c`'s arguments as they were, its result in place, and all counters zero. -/
theorem run_framed : θ_run defs (onTc (τ := τ) (main (F := F))) ⟨m, fun _ => 0, ρ⟩ (fun r =>
    (∀ c : Dev nD, r.2.mem ((c : Thread nD τ).loc main_v1) = final m ρ c (4 : Fin 5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨h.1 c (4 : Fin 5), (h.1 c (0 : Fin 5)).trans (final_x m ρ c), (h.1 c (1 : Fin 5)).trans (final_w m ρ c),
    (h.1 c (2 : Fin 5)).trans (final_i m ρ c), (h.1 c (3 : Fin 5)).trans (final_e m ρ c)⟩, h.2⟩) (run_main m ρ)

attribute [local instance] Cert.Kernel.Gen.facts Cert.KernelIdeal.Gen.facts Cert.ReferenceIdeal.Gen.facts

/-- The kernel and its ideal have the same text, body by body. -/
theorem bodies_same : Cert.Kernel.defs₀ (F := Bits) = defs₀ (F := Bits) := by
  unfold Cert.Kernel.defs₀ defs₀
  refine congrArg Defs.onTc ?_
  funext l a
  match l, a with
  | 0, (t, s) => exact rfl

theorem tables_same : Cert.Kernel.defs (F := Bits) = defs (F := Bits) := congrArg (Pipeline.defs Cert.Kernel.pcfgs) bodies_same

theorem frame_kernel : Cert.quiescent_Kernel := fun m ρ _ => by
  rw [tables_same]
  exact (θ_run (defs (F := Bits)) _ _).mono (fun _ h => ⟨fun c => (h.1 c).2, h.2⟩) (run_framed (F := Bits) m ρ)

theorem frame_ideal : Cert.quiescent_KernelIdeal := fun m ρ _ =>
  (θ_run (Cert.KernelIdeal.defs (F := Ideal)) _ _).mono (fun _ h => ⟨fun c => (h.1 c).2, h.2⟩) (run_framed (F := Ideal) m ρ)

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

end Cert.MoE

end
-- ==== Proof.Proof.Mix.lean ====
/-
# The mathematics of the mixture

One token, over the extended reals. Its exponentials are positive reals once its scores are real; a choice's gate is the
exponential of the expert it names, or 0; the two weights are the gates over their sum, and dividing every gate by the
row's sum first does not change them. The sum over all experts, each under the weights of the choices that name it, is
the sum of the two choices' products.
-/
module

public import Idealize.ShloMosaic.PureOps
public import Idealize.ShloMosaic.Lib.Pointwise
public import Idealize.ShloMosaic.Lib.StableHlo.Predicate
public import Mathlib.Data.EReal.Operations
public import Mathlib.Algebra.BigOperators.Fin

@[expose] public section

noncomputable section

namespace Cert.MoE

open Idealize.ShloMosaic
open Idealize.ShloMosaic.StableHlo.Predicate (cmpi_eq_iff)
open scoped BigOperators

/-! ## Scores and their exponentials -/

/-- The greatest of a row of scores, as a fold that starts at the word of minus infinity. -/
def rowTop (s : Fin 64 → EReal) : EReal := Finset.fold max (Ideal.ofBits FTy.f32 0xFF800000#32) s Finset.univ

/-- A score's exponential, the row's greatest score taken off first. -/
def grade (s : Fin 64 → EReal) (e : Fin 64) : EReal := Ideal.exp (s e - rowTop s)

/-- A sum of reals, read as an extended real. -/
theorem coe_sum_real {ι : Type} [Fintype ι] (g : ι → ℝ) : ((∑ k, g k : ℝ) : EReal) = ∑ k, (g k : EReal) := by
  classical
  induction (Finset.univ : Finset ι) using Finset.induction_on with
  | empty => rfl
  | insert k s hk ih => rw [Finset.sum_insert hk, Finset.sum_insert hk, EReal.coe_add, ih]

/-- A sum of values each of which is real is real. -/
theorem sum_real {ι : Type} [Fintype ι] (f : ι → EReal) (h : ∀ k, ∃ r : ℝ, f k = r) : ∃ r : ℝ, ∑ k, f k = r := by
  choose g hg using h
  exact ⟨∑ k, g k, by rw [coe_sum_real]; exact Finset.sum_congr rfl fun k _ => hg k⟩

/-- The word of minus infinity is minus infinity. -/
theorem ofBits_bot : Ideal.ofBits FTy.f32 0xFF800000#32 = ⊥ := by
  simp [Ideal.ofBits, Ideal.ieee]

/-- A row of real scores has a real greatest one. -/
theorem rowTop_real (s : Fin 64 → ℝ) : ∃ r : ℝ, rowTop (fun e => (s e : EReal)) = r := by
  have hb : rowTop (fun e => (s e : EReal)) ≠ ⊥ := by
    intro h
    have h0 : ((s 0 : ℝ) : EReal) ≤ rowTop (fun e => (s e : EReal)) :=
      (Finset.le_fold_max _).mpr (.inr ⟨0, Finset.mem_univ _, le_rfl⟩)
    rw [h] at h0
    exact absurd (le_bot_iff.1 h0) (EReal.coe_ne_bot _)
  have ht : rowTop (fun e => (s e : EReal)) ≠ ⊤ := by
    refine ne_of_lt ?_
    unfold rowTop
    rw [Finset.fold_max_lt, ofBits_bot]
    exact ⟨bot_lt_top, fun e _ => EReal.coe_lt_top _⟩
  exact ⟨_, (EReal.coe_toReal ht hb).symm⟩

/-- A row of real scores has positive real exponentials. -/
theorem grade_real (s : Fin 64 → EReal) (h : ∀ e, ∃ r : ℝ, s e = r) :
    ∃ f : Fin 64 → ℝ, (∀ e, 0 < f e) ∧ grade s = fun e => (f e : EReal) := by
  choose g hg using h
  obtain rfl : s = fun e => (g e : EReal) := funext hg
  obtain ⟨t, ht⟩ := rowTop_real g
  refine ⟨fun e => Real.exp (g e - t), fun e => Real.exp_pos _, funext fun e => ?_⟩
  unfold grade
  rw [ht, ← EReal.coe_sub, Ideal.exp_coe]

/-! ## Gates -/

/-- The exponential of the expert a word names, 0 where it names none. -/
def picked (f : Fin 64 → ℝ) (b : BitVec 32) : ℝ := if h : b.toNat < 64 then f ⟨b.toNat, h⟩ else 0

/-- The word of an expert's number. -/
theorem expert_word (e : Fin 64) (b : BitVec 32) : BitVec.ofNat 32 e.val = b ↔ b.toNat = e.val := by
  rw [← BitVec.toNat_inj, BitVec.toNat_ofNat, Nat.mod_eq_of_lt (by omega)]
  exact eq_comm

/-- A choice by the comparison of two words. -/
theorem select_eq {α : Type} (a b : BitVec 32) (u v : α) : Scalar.select (IntOp.cmpi .eq a b) u v = if a = b then u else v := by
  by_cases h : a = b
  · rw [if_pos h, cmpi_eq_iff.2 h]; rfl
  · rw [if_neg h, ValueIdx.eq_zero_of_ne_one fun h' => h (cmpi_eq_iff.1 h')]; rfl

/-- A sum over the experts of what one choice leaves of them. -/
theorem sum_chosen (b : BitVec 32) (v : Fin 64 → EReal) :
    ∑ e : Fin 64, (if BitVec.ofNat 32 e.val = b then v e else 0) = if h : b.toNat < 64 then v ⟨b.toNat, h⟩ else 0 := by
  by_cases h : b.toNat < 64
  · rw [dif_pos h, Finset.sum_eq_single (⟨b.toNat, h⟩ : Fin 64)]
    · rw [if_pos ((expert_word _ _).2 rfl)]
    · intro e _ he
      rw [if_neg fun h' => he (Fin.ext ((expert_word _ _).1 h').symm)]
    · intro h'; exact absurd (Finset.mem_univ _) h'
  · rw [dif_neg h]
    refine Finset.sum_eq_zero fun e _ => if_neg fun h' => h ?_
    rw [(expert_word _ _).1 h']; exact e.isLt

theorem sum_picked (f : Fin 64 → ℝ) (b : BitVec 32) :
    ∑ e : Fin 64, (if BitVec.ofNat 32 e.val = b then (f e : EReal) else 0) = (picked f b : EReal) := by
  rw [sum_chosen b fun e => (f e : EReal)]
  unfold picked
  by_cases h : b.toNat < 64
  · rw [dif_pos h, dif_pos h]
  · rw [dif_neg h, dif_neg h]; rfl

theorem picked_nonneg {f : Fin 64 → ℝ} (hf : ∀ e, 0 < f e) (b : BitVec 32) : 0 ≤ picked f b := by
  unfold picked
  by_cases h : b.toNat < 64
  · rw [dif_pos h]; exact (hf _).le
  · rw [dif_neg h]

theorem picked_pos {f : Fin 64 → ℝ} (hf : ∀ e, 0 < f e) {b : BitVec 32} (h : b.toNat < 64) : 0 < picked f b := by
  unfold picked
  rw [dif_pos h]; exact hf _

/-! ## Weights -/

/-- A quotient does not change when both its parts are divided by one positive real, whatever they are. -/
theorem div_scaled (g t : ℝ) {S : ℝ} (hS : 0 < S) :
    Ideal.div ((g / S : ℝ) : EReal) ((t / S : ℝ) : EReal) = Ideal.div (g : EReal) (t : EReal) := by
  by_cases ht : t = 0
  · subst ht
    have h : (0 : EReal) < ((g / S : ℝ) : EReal) ↔ (0 : EReal) < (g : EReal) := by
      rw [EReal.coe_pos, EReal.coe_pos, div_pos_iff_of_pos_right hS]
    unfold Ideal.div
    rw [zero_div, EReal.coe_zero, if_pos rfl, if_pos rfl]
    by_cases hg : (0 : EReal) < (g : EReal)
    · rw [if_pos hg, if_pos (h.2 hg)]
    · rw [if_neg hg, if_neg fun h' => hg (h.1 h')]
  · rw [Ideal.div_coe ht, Ideal.div_coe (div_ne_zero ht hS.ne'), ← EReal.coe_mul, ← EReal.coe_mul]
    congr 1
    field_simp

/-- A weight over a positive sum is real and not negative. -/
theorem div_nonneg_real {g t : ℝ} (hg : 0 ≤ g) (ht : 0 < t) : ∃ r : ℝ, 0 ≤ r ∧ Ideal.div (g : EReal) (t : EReal) = r :=
  ⟨g * (1 / t), mul_nonneg hg (one_div_nonneg.2 ht.le), by rw [Ideal.div_coe ht.ne', ← EReal.coe_mul]⟩

/-! ## The sum over the experts -/

/-- A real that is not negative comes out of a sum. -/
theorem mul_sum_real {ι : Type} (s : Finset ι) {a : ℝ} (ha : 0 ≤ a) (v : ι → EReal) :
    ∑ k ∈ s, (a : EReal) * v k = (a : EReal) * ∑ k ∈ s, v k := by
  classical
  induction s using Finset.induction_on with
  | empty => rw [Finset.sum_empty, Finset.sum_empty, mul_zero]
  | insert k s hk ih =>
    rw [Finset.sum_insert hk, Finset.sum_insert hk, ih,
      EReal.left_distrib_of_nonneg_of_ne_top (EReal.coe_nonneg.2 ha) (EReal.coe_ne_top a)]

/-- One expert's product under its two choices' weights, each real and not negative where it is not left out. -/
theorem expert_term {K : ℕ} (p q : Prop) [Decidable p] [Decidable q] (u v : EReal) (hu : p → ∃ r : ℝ, 0 ≤ r ∧ u = r)
    (hv : q → ∃ r : ℝ, 0 ≤ r ∧ v = r) (x y : Fin K → EReal) :
    ∑ k, ((if p then u else 0) + (if q then v else 0)) * x k * y k
      = (if p then u * ∑ k, x k * y k else 0) + (if q then v * ∑ k, x k * y k else 0) := by
  obtain ⟨a, ha, hua⟩ : ∃ a : ℝ, 0 ≤ a ∧ (if p then u else 0) = (a : EReal) := by
    by_cases h : p
    · rw [if_pos h]; exact hu h
    · rw [if_neg h]; exact ⟨0, le_rfl, rfl⟩
  obtain ⟨b, hb, hvb⟩ : ∃ b : ℝ, 0 ≤ b ∧ (if q then v else 0) = (b : EReal) := by
    by_cases h : q
    · rw [if_pos h]; exact hv h
    · rw [if_neg h]; exact ⟨0, le_rfl, rfl⟩
  have e (r : Prop) [Decidable r] (z D : EReal) : (if r then z * D else 0) = (if r then z else 0) * D := by
    by_cases h : r
    · rw [if_pos h, if_pos h]
    · rw [if_neg h, if_neg h, zero_mul]
  rw [e, e, hua, hvb, ← EReal.right_distrib_of_nonneg (EReal.coe_nonneg.2 ha) (EReal.coe_nonneg.2 hb), ← EReal.coe_add,
    ← mul_sum_real _ (add_nonneg ha hb)]
  exact Finset.sum_congr rfl fun k _ => mul_assoc _ _ _

/-- The experts, two to a device. -/
theorem sum_devices (v : Fin 64 → EReal) :
    ∑ s : Fin 32, (v ⟨2 * s.val, by omega⟩ + v ⟨2 * s.val + 1, by omega⟩) = ∑ e, v e := by
  rw [← Equiv.sum_comp (finProdFinEquiv : Fin 32 × Fin 2 ≃ Fin 64) v, Fintype.sum_prod_type]
  refine Finset.sum_congr rfl fun s _ => ?_
  rw [Fin.sum_univ_two]
  congr 2 <;> exact Fin.ext (by simp [finProdFinEquiv]; try omega)

/-- All experts' products, each under the weights of the choices that name it, are the two choices' products. -/
theorem sum_experts {K : ℕ} (f : Fin 64 → ℝ) (hf : ∀ e, 0 < f e) (b0 b1 : BitVec 32) (x : Fin K → EReal) (y : Fin 64 → Fin K → EReal) :
    ∑ e : Fin 64, ∑ k, ((if BitVec.ofNat 32 e.val = b0 then Ideal.div (picked f b0 : EReal) (picked f b0 + picked f b1 : ℝ) else 0)
        + (if BitVec.ofNat 32 e.val = b1 then Ideal.div (picked f b1 : EReal) (picked f b0 + picked f b1 : ℝ) else 0)) * x k * y e k
      = Ideal.div (picked f b0 : EReal) (picked f b0 + picked f b1 : ℝ) * (∑ k, x k * (if h : b0.toNat < 64 then y ⟨b0.toNat, h⟩ k else 0))
        + Ideal.div (picked f b1 : EReal) (picked f b0 + picked f b1 : ℝ) * (∑ k, x k * (if h : b1.toNat < 64 then y ⟨b1.toNat, h⟩ k else 0)) := by
  have h0 (e : Fin 64) (h : BitVec.ofNat 32 e.val = b0) : b0.toNat < 64 := by rw [(expert_word _ _).1 h]; exact e.isLt
  have h1 (e : Fin 64) (h : BitVec.ofNat 32 e.val = b1) : b1.toNat < 64 := by rw [(expert_word _ _).1 h]; exact e.isLt
  have one (b : BitVec 32) (u : EReal) : ∑ e : Fin 64, (if BitVec.ofNat 32 e.val = b then u * ∑ k, x k * y e k else 0)
      = u * ∑ k, x k * (if h : b.toNat < 64 then y ⟨b.toNat, h⟩ k else 0) := by
    rw [sum_chosen b fun e => u * ∑ k, x k * y e k]
    by_cases h : b.toNat < 64
    · rw [dif_pos h]
      refine congrArg (u * ·) (Finset.sum_congr rfl fun k _ => ?_)
      rw [dif_pos h]
    · rw [dif_neg h]
      refine (mul_eq_zero_of_right u (Finset.sum_eq_zero fun k _ => ?_)).symm
      rw [dif_neg h, mul_zero]
  rw [← one b0, ← one b1, ← Finset.sum_add_distrib]
  refine Finset.sum_congr rfl fun e _ => expert_term _ _ _ _ (fun h => ?_) (fun h => ?_) _ _
  · exact div_nonneg_real (picked_nonneg hf _) (add_pos_of_pos_of_nonneg (picked_pos hf (h0 e h)) (picked_nonneg hf _))
  · exact div_nonneg_real (picked_nonneg hf _) (add_pos_of_nonneg_of_pos (picked_nonneg hf _) (picked_pos hf (h1 e h)))

end Cert.MoE

end
-- ==== Proof.Proof.Parts.lean ====
/-
# What the kernel computes, at an index

The kernel's result over the ideal numbers: its arguments' blocks are the whole arrays, its result array is what the
last statement stores, and an element of that is the sum over all devices and each device's two experts.
-/
module

public import proofs.«01_k».proof.Proof.Proof.Launch
public import proofs.«01_k».proof.Proof.Proof.Mix
public import Idealize.ShloMosaic.Lib.Pointwise

@[expose] public section

noncomputable section

namespace Cert.MoE

open Cert.KernelIdeal Cert.KernelIdeal.Gen
open Idealize.ShloMosaic
open Idealize.ShloMosaic.TcCoe
open Idealize.ShloMosaic.Pointwise

variable {F : FTy → Type} [FloatOps F]
variable (m : (ℓ : Loc nD τ sig) → Buf (Elt F) ℓ) (ρ : Dev nD → PrngReg)

set_option maxRecDepth 16384

/-! ## Whole arrays -/

/-- A coordinate in an array's only block is the array's own. -/
theorem zero_block (p n : ℕ) : 0 * p + 1 * n = n := by omega

theorem args_x (c : Dev nD) : (args m ρ c).x = m ((c : Thread nD τ).loc main_arg0) := by
  funext j
  refine congrArg (m ((c : Thread nD τ).loc main_arg0)) (funext fun a => Fin.ext ?_)
  match a with
  | ⟨0, _⟩ => exact zero_block 512 _
  | ⟨1, _⟩ => exact zero_block 256 _

theorem args_w (c : Dev nD) : (args m ρ c).w = m ((c : Thread nD τ).loc main_arg1) := by
  funext j
  refine congrArg (m ((c : Thread nD τ).loc main_arg1)) (funext fun a => Fin.ext ?_)
  match a with
  | ⟨0, _⟩ => exact zero_block 256 _
  | ⟨1, _⟩ => exact zero_block 64 _

theorem args_i (c : Dev nD) : (args m ρ c).i = m ((c : Thread nD τ).loc main_arg2) := by
  funext j
  refine congrArg (m ((c : Thread nD τ).loc main_arg2)) (funext fun a => Fin.ext ?_)
  match a with
  | ⟨0, _⟩ => exact zero_block 512 _
  | ⟨1, _⟩ => exact zero_block 2 _

theorem args_e (c : Dev nD) : (args m ρ c).e = m ((c : Thread nD τ).loc main_arg3) := by
  funext j
  refine congrArg (m ((c : Thread nD τ).loc main_arg3)) (funext fun a => Fin.ext ?_)
  match a with
  | ⟨0, _⟩ => exact zero_block 2 _
  | ⟨1, _⟩ => exact zero_block 256 _
  | ⟨2, _⟩ => exact zero_block 512 _

theorem flushed_out (c : Dev nD) (t : Fin cfg0.N) :
    (dats m ρ 0 c).flushed 4 t = ((cfg0.win 4).blk t).view.read (Elt F) (outOf (args m ρ) c) := by
  obtain rfl := fin_N0 t
  have ha : (dats m ρ 0 c).after 4 t0_0 = outOf (args m ρ) c := by dsimp only [dats]
  unfold Pipeline.Dat.flushed
  rw [ha]
  funext j
  refine congrArg (outOf (args m ρ) c) (funext fun a => Fin.ext ?_)
  match a with
  | ⟨0, _⟩ => exact (zero_block 16 _).symm
  | ⟨1, _⟩ => exact (zero_block 512 _).symm

theorem out_cover (i : S16x512.Idx) : ∃ t : Fin cfg0.N, (cfg0.win 4).flush t = true ∧ i ∈ ((cfg0.win 4).blk t).view.set := by
  refine ⟨t0_0, flush0_4 _, ?_⟩
  show i ∈ ((View.whole main_v1).slice (win0_4.rect t0_0)).set
  rw [View.set_slice_whole, Rect.mem_set_unit]
  have e : win0_4.index t0_0 0 * win0_4.size 0 = 0 ∧ win0_4.xsize (grid0.coords t0_0) 0 = 16
      ∧ win0_4.index t0_0 1 * win0_4.size 1 = 0 ∧ win0_4.xsize (grid0.coords t0_0) 1 = 512 := by decide +kernel
  have h0 : (i 0 : Nat) < 16 := (i 0).isLt
  have h1 : (i 1 : Nat) < 512 := (i 1).isLt
  intro a
  match a with
  | ⟨0, _⟩ => show win0_4.index t0_0 0 * win0_4.size 0 ≤ (i 0 : Nat) ∧ (i 0 : Nat) < win0_4.index t0_0 0 * win0_4.size 0 + win0_4.xsize (grid0.coords t0_0) 0
              rw [e.1, e.2.1]; omega
  | ⟨1, _⟩ => show win0_4.index t0_0 1 * win0_4.size 1 ≤ (i 1 : Nat) ∧ (i 1 : Nat) < win0_4.index t0_0 1 * win0_4.size 1 + win0_4.xsize (grid0.coords t0_0) 1
              rw [e.2.2.1, e.2.2.2]; omega

/-- The result array at the end. -/
theorem final_out (c : Dev nD) : final m ρ c 4 = outOf (args m ρ) c :=
  (dats m ρ 0 c).arrAt_eq_of_cover 4 (outOf (args m ρ) c) (fun t _ => flushed_out m ρ c t) out_cover

/-! ## Columns and matrices -/

theorem col0_apply (a : Args F) (r : Fin 512) : col0 a (ix2 r 0) = a.i (ix2 r 0) := by
  refine congrArg a.i (funext fun b => Fin.ext ?_)
  match b with
  | ⟨0, _⟩ => exact (show 0 + 1 * r.val = r.val by omega)
  | ⟨1, _⟩ => rfl
theorem col1_apply (a : Args F) (r : Fin 512) : col1 a (ix2 r 0) = a.i (ix2 r 1) := by
  refine congrArg a.i (funext fun b => Fin.ext ?_)
  match b with
  | ⟨0, _⟩ => exact (show 0 + 1 * r.val = r.val by omega)
  | ⟨1, _⟩ => rfl
theorem ex0_apply (a : Args F) (k : Fin 256) (j : Fin 512) : ex0 a (ix3 0 k j) = a.e (ix3 0 k j) := by
  refine congrArg a.e (funext fun b => Fin.ext ?_)
  match b with
  | ⟨0, _⟩ => rfl
  | ⟨1, _⟩ => exact (show 0 + 1 * k.val = k.val by omega)
  | ⟨2, _⟩ => exact (show 0 + 1 * j.val = j.val by omega)
theorem ex1_apply (a : Args F) (k : Fin 256) (j : Fin 512) : ex1 a (ix3 0 k j) = a.e (ix3 1 k j) := by
  refine congrArg a.e (funext fun b => Fin.ext ?_)
  match b with
  | ⟨0, _⟩ => rfl
  | ⟨1, _⟩ => exact (show 0 + 1 * k.val = k.val by omega)
  | ⟨2, _⟩ => exact (show 0 + 1 * j.val = j.val by omega)

/-! ## One device's part over the ideal numbers -/

section Part

variable (a : Args Ideal) (r : Fin 512) (j : Fin 512)

/-- A token's scores. -/
abbrev scoresOf (x : FVec Ideal S512x256 .bf16) (w : FVec Ideal S256x64 .bf16) (r : Fin 512) : Fin 64 → EReal :=
  fun n => ∑ k : Fin 256, x (ix2 r k) * w (ix2 k n)

theorem pay1_apply (n : Fin 64) : k0_pay1 a.x a.w (ix2 r n) = grade (scoresOf a.x a.w r) n := by
  pointwise [k0_pay1]
  rfl

variable {f : Fin 64 → ℝ} (hs : grade (scoresOf a.x a.w r) = fun n => (f n : EReal))
include hs

theorem gate0 : k0_pay4 a.x a.w (col0 a) (ix2 r 0) = (picked f (a.i (ix2 r 0)) : EReal) := by
  have h : k0_pay4 a.x a.w (col0 a) (ix2 r 0)
      = ∑ n : Fin 64, Scalar.select (IntOp.cmpi .eq (BitVec.ofNat 32 n.val) (col0 a (ix2 r 0))) (k0_pay1 a.x a.w (ix2 r n)) 0 := by
    pointwise [k0_pay4, k0_pay2]
  rw [h, ← sum_picked]
  exact Finset.sum_congr rfl fun n _ => by rw [select_eq, col0_apply, pay1_apply, hs]

theorem gate1 : k0_pay5 a.x a.w (col1 a) (ix2 r 0) = (picked f (a.i (ix2 r 1)) : EReal) := by
  have h : k0_pay5 a.x a.w (col1 a) (ix2 r 0)
      = ∑ n : Fin 64, Scalar.select (IntOp.cmpi .eq (BitVec.ofNat 32 n.val) (col1 a (ix2 r 0))) (k0_pay1 a.x a.w (ix2 r n)) 0 := by
    pointwise [k0_pay5, k0_pay3]
  rw [h, ← sum_picked]
  exact Finset.sum_congr rfl fun n _ => by rw [select_eq, col1_apply, pay1_apply, hs]

theorem gates : k0_pay6 a.x a.w (col0 a) (col1 a) (ix2 r 0) = (picked f (a.i (ix2 r 0)) + picked f (a.i (ix2 r 1)) : ℝ) := by
  have h : k0_pay6 a.x a.w (col0 a) (col1 a) (ix2 r 0) = k0_pay4 a.x a.w (col0 a) (ix2 r 0) + k0_pay5 a.x a.w (col1 a) (ix2 r 0) := by
    pointwise [k0_pay6]
  rw [h, gate0 a r hs, gate1 a r hs, EReal.coe_add]

theorem weight0 : k0_pay7 a.x a.w (col0 a) (col1 a) (ix2 r 0)
    = Ideal.div (picked f (a.i (ix2 r 0)) : EReal) (picked f (a.i (ix2 r 0)) + picked f (a.i (ix2 r 1)) : ℝ) := by
  have h : k0_pay7 a.x a.w (col0 a) (col1 a) (ix2 r 0)
      = Ideal.div (k0_pay4 a.x a.w (col0 a) (ix2 r 0)) (k0_pay6 a.x a.w (col0 a) (col1 a) (ix2 r 0)) := by
    pointwise [k0_pay7]
  rw [h, gate0 a r hs, gates a r hs]

omit hs in
theorem choice0 : k0_pay2 (F := Ideal) (col0 a) (ix2 r 0) = a.i (ix2 r 0) := by
  rw [← col0_apply]; pointwise [k0_pay2]
omit hs in
theorem choice1 : k0_pay3 (F := Ideal) (col1 a) (ix2 r 0) = a.i (ix2 r 1) := by
  rw [← col1_apply]; pointwise [k0_pay3]

omit hs in
/-- The number of a device's expert, as the program computes it. -/
theorem expert_number (s : Dev nD) (l : Fin 2) :
    Scalar.addi (Scalar.muli (meWord s) 2#32) (BitVec.ofNat 32 l.val) = BitVec.ofNat 32 (2 * s.val + l.val) := by
  revert s l; decide +kernel

/-- The coefficient of an expert in a token's row. -/
abbrev coef (f : Fin 64 → ℝ) (b0 b1 : BitVec 32) (n : BitVec 32) : EReal :=
  (if n = b0 then Ideal.div (picked f b0 : EReal) (picked f b0 + picked f b1 : ℝ) else 0)
    + (if n = b1 then Ideal.div (picked f b1 : EReal) (picked f b0 + picked f b1 : ℝ) else 0)

theorem part0_apply (s : Dev nD) : part0 s a (ix2 r j)
    = ∑ k : Fin 256, coef f (a.i (ix2 r 0)) (a.i (ix2 r 1)) (BitVec.ofNat 32 (2 * s.val)) * a.x (ix2 r k) * a.e (ix3 0 k j) := by
  unfold part0
  have h (me) (i0 i1 : IVec S512x1 32) (g1 gs w0 : FVec Ideal S512x1 .f32) (x : FVec Ideal S512x256 .bf16) (w : FVec Ideal S1x256x512 .bf16) :
      k0_pay10 me i0 i1 g1 gs w0 x w (ix2 r j)
        = ∑ k : Fin 256, (Scalar.select (IntOp.cmpi .eq (i0 (ix2 r 0)) (Scalar.addi (Scalar.muli me 2#32) 0#32)) (w0 (ix2 r 0)) 0
            + Scalar.select (IntOp.cmpi .eq (i1 (ix2 r 0)) (Scalar.addi (Scalar.muli me 2#32) 0#32)) (Ideal.div (g1 (ix2 r 0)) (gs (ix2 r 0))) 0)
          * x (ix2 r k) * w (ix3 0 k j) := by
    pointwise [k0_pay10, k0_pay8, k0_pay9]
  rw [h]
  refine Finset.sum_congr rfl fun k _ => ?_
  rw [weight0 a r hs, gate1 a r hs, gates a r hs, choice0, choice1, select_eq, select_eq, ex0_apply, show (0#32 : BitVec 32) = BitVec.ofNat 32 (0 : Fin 2).val from rfl,
    expert_number]
  simp only [coef, eq_comm]
  rfl

theorem part1_apply (s : Dev nD) : part1 s a (ix2 r j)
    = ∑ k : Fin 256, coef f (a.i (ix2 r 0)) (a.i (ix2 r 1)) (BitVec.ofNat 32 (2 * s.val + 1)) * a.x (ix2 r k) * a.e (ix3 1 k j) := by
  unfold part1
  have h (me) (i0 i1 : IVec S512x1 32) (g1 gs w0 : FVec Ideal S512x1 .f32) (x : FVec Ideal S512x256 .bf16) (w : FVec Ideal S1x256x512 .bf16) :
      k0_pay11 me i0 i1 g1 gs w0 x w (ix2 r j)
        = ∑ k : Fin 256, (Scalar.select (IntOp.cmpi .eq (i0 (ix2 r 0)) (Scalar.addi (Scalar.muli me 2#32) 1#32)) (w0 (ix2 r 0)) 0
            + Scalar.select (IntOp.cmpi .eq (i1 (ix2 r 0)) (Scalar.addi (Scalar.muli me 2#32) 1#32)) (Ideal.div (g1 (ix2 r 0)) (gs (ix2 r 0))) 0)
          * x (ix2 r k) * w (ix3 0 k j) := by
    pointwise [k0_pay11, k0_pay8, k0_pay9]
  rw [h]
  refine Finset.sum_congr rfl fun k _ => ?_
  rw [weight0 a r hs, gate1 a r hs, gates a r hs, choice0, choice1, select_eq, select_eq, ex1_apply, show (1#32 : BitVec 32) = BitVec.ofNat 32 (1 : Fin 2).val from rfl,
    expert_number]
  simp only [coef, eq_comm]
  rfl

end Part

/-! ## The result -/

/-- A device's result at an index: every device's part of the device's own block of rows, added up. -/
theorem outOf_apply (A : Dev nD → Args Ideal) (c : Dev nD) (r : Fin 16) (j : Fin 512) :
    outOf A c (ix2 r j) = ∑ s : Fin 32, (part0 s (A s) (ix2 (blockRow c r) j) + part1 s (A s) (ix2 (blockRow c r) j)) := by
  have h (v : Blocks Ideal) : k0_pay49 v (ix2 r j) = ∑ s : Fin 32, v (ix3 s r j) := by pointwise [k0_pay49]
  have h' (a b : FVec Ideal S512x512 .f32) (i : Fin 512) : k0_pay12 a b (ix2 i j) = a (ix2 i j) + b (ix2 i j) := by pointwise [k0_pay12]
  unfold outOf
  rw [h]
  exact Finset.sum_congr rfl fun s _ => h' _ _ (blockRow c r)

end Cert.MoE

end
-- ==== Proof.Proof.Looked.lean ====
/-
# What the reference computes, operation by operation

The reference's composed term, cut into the pieces its text has (the probabilities, the two chosen experts, whether a
choice names an expert, a choice's probability, a choice's expert matrix), and each piece read at an index.
-/
module

public import proofs.«01_k».proof.Proof.Gen.ReferenceIdeal.Run
public import proofs.«01_k».proof.Defs
public import proofs.«01_k».proof.Proof.Proof.Mix
public import Idealize.ShloMosaic.Lib.Pointwise
public import Idealize.ShloMosaic.Lib.StableHlo.Predicate

@[expose] public section

noncomputable section

namespace Cert.MoE.Looked

open Cert.ReferenceIdeal
open Idealize.ShloMosaic Idealize.ShloMosaic.Pointwise
open Cert.ReferenceIdeal.Facts₀ Cert.ReferenceIdeal.Facts

attribute [local instance] Cert.ReferenceIdeal.Gen.facts

variable (x : FVec Ideal S512x256 .bf16) (w : FVec Ideal S256x64 .bf16) (i : IVec S512x2 32) (W : FVec Ideal S64x256x512 .bf16)
variable (lim : IVec S2 32) (e : IVec S512 32)

/-- Every token's score for every expert. -/
def scores : FVec Ideal S512x64 .f32 :=
  Host.dotGeneral dot_S512x256_S256x64_S512x64_1_0_0_1_n_n none (extf .f32 x bitsLt_bf16_f32) (extf .f32 w bitsLt_bf16_f32)

/-- The scores' exponentials, each row's greatest score taken off first. -/
def grades : FVec Ideal S512x64 .f32 :=
  Host.exp (subf (scores x w) (broadcastInDim S512x64 ![0, 1] bcast_S512x1_S512x64_0_1 (broadcastInDim S512x1 ![0] bcast_S512_S512x1_0
    (Host.reduce FloatOps.maximumf (scores x w) (constant S_ .f32 0xFF800000#32) reducesTo_S512x64_S512_d1 h_S_))))

/-- The same over the row's sum. -/
def probs : FVec Ideal S512x64 .f32 :=
  Host.divf (grades x w) (broadcastInDim S512x64 ![0, 1] bcast_S512x1_S512x64_0_1 (broadcastInDim S512x1 ![0] bcast_S512_S512x1_0
    (Host.reduceAdd (grades x w) (constant S_ .f32 0x00000000#32) reducesTo_S512x64_S512_d1 h_S_)))

/-- The first and the second choice. -/
def pick0 : IVec S512 32 := shapeCast _ (extractStridedSlice S512x1 ![0, 0] i slices_S512x2_S512x1_0_0) shapeCasts_S512x1_S512
def pick1 : IVec S512 32 := shapeCast _ (extractStridedSlice S512x1 ![0, 1] i slices_S512x2_S512x1_0_1) shapeCasts_S512x1_S512

/-- A column of words. -/
def column : IVec S512x1 32 := broadcastInDim S512x1 ![0] bcast_S512_S512x1_0 e

/-- Every token's own number beside its choice. -/
def places : IVec S512x2 32 :=
  concatenate S512x2 1 [⟨S512x1, column (iotaInDim S512 32 0)⟩, ⟨S512x1, column e⟩] concatenates_S512x1_S512x1_S512x2_d1

/-- Is the pair inside the table of probabilities? -/
def inside : IVec S512 1 :=
  Host.reduce IntOp.andi (andi (cmpi .sge (places e) (broadcastInDim S512x2 ![] bcast_S_S512x2 (constantI S_ 32 0#32)))
    (cmpi .sle (places e) (broadcastInDim S512x2 ![0, 1] bcast_S1x2_S512x2_0_1 (broadcastInDim S1x2 ![1] bcast_S2_S1x2_1 lim))))
    (constantI S_ 1 1#1) reducesTo_S512x2_S512_d1 h_S_

/-- A choice's probability; 0 where the choice names no expert. -/
def gate (p : FVec Ideal S512x64 .f32) : FVec Ideal S512 .f32 :=
  select (inside lim e) (Host.gather gather_S512x64_S512x2_S512_n_01_n_n_01_1_11 p (places e))
    (broadcastInDim S512 ![] bcast_S_S512 (constant S_ .f32 0x00000000#32))

/-- Does the choice name an expert? -/
def named : IVec S512 1 :=
  Host.reduce IntOp.andi (andi (cmpi .sge (column e) (broadcastInDim S512x1 ![] bcast_S_S512x1 (constantI S_ 32 0#32)))
    (cmpi .sle (column e) (broadcastInDim S512x1 ![0, 1] bcast_S1x1_S512x1_0_1 (broadcastInDim S1x1 ![1] bcast_S1_S1x1_1 (constantI S1 32 63#32)))))
    (constantI S_ 1 1#1) reducesTo_S512x1_S512_d1 h_S_

/-- A choice's expert matrix; zeros where the choice names no expert. -/
def expert : FVec Ideal S512x256x512 .f32 :=
  select (broadcastInDim S512x256x512 ![0] bcast_S512_S512x256x512_0 (named e))
    (Host.gather gather_S64x256x512_S512x1_S512x256x512_12_0_n_n_0_1_1256512 (extf .f32 W bitsLt_bf16_f32) (column e))
    (broadcastInDim S512x256x512 ![] bcast_S_S512x256x512 (constant S_ .f32 0x00000000#32))

/-- Every token's product with its choice's matrix. -/
def product : FVec Ideal S512x512 .f32 :=
  Host.dotGeneral dot_S512x256_S512x256x512_S512x512_1_1_n_2_0_0 none (extf .f32 x bitsLt_bf16_f32) (expert W e)

/-- The products under a column of weights. -/
def weighed (g s : FVec Ideal S512 .f32) : FVec Ideal S512x512 .f32 :=
  mulf (broadcastInDim S512x512 ![0, 1] bcast_S512x1_S512x512_0_1 (broadcastInDim S512x1 ![0] bcast_S512_S512x1_0 (Host.divf g s))) (product x W e)

/-- The reference's result. -/
def out : FVec Ideal S512x512 .f32 :=
  let g0 := gate (fun k => lit0 (S2.rowMajor k)) (pick0 i) (probs x w)
  let g1 := gate (fun k => lit1 (S2.rowMajor k)) (pick1 i) (probs x w)
  addf (weighed x W (pick0 i) g0 (addf g0 g1)) (weighed x W (pick1 i) g1 (addf g0 g1))

set_option maxRecDepth 16384

theorem res_eq (m : (ℓ : Loc nD τ sig) → Buf (Elt Ideal) ℓ) (c : Dev nD) :
    Cert.ReferenceIdeal.Value.res_main_v79 m c
      = out (m ((c.tc : Thread nD τ).loc main_arg0)) (m ((c.tc : Thread nD τ).loc main_arg1)) (m ((c.tc : Thread nD τ).loc main_arg2))
        (m ((c.tc : Thread nD τ).loc main_arg3)) := rfl

variable (r : Fin 512) (k : Fin 256) (j : Fin 512) (n : Fin 64)

section Gathers

/-- The pair of start words at which a token reads the table of probabilities. -/
theorem pair_word (c) :
    gather_S512x64_S512x2_S512_n_01_n_n_01_1_11.siIdx (ix1 r) c = ix2 r (⟨c.val, c.isLt⟩ : Fin 2) := by
  funext b
  refine Fin.ext ?_
  match b with
  | ⟨0, _⟩ => rfl
  | ⟨1, _⟩ => rfl

/-- A probability gathered: the table at the pair of words, each read signed and brought into range. -/
theorem gather_pair (p : FVec Ideal S512x64 .f32) (q : IVec S512x2 32) :
    Host.gather gather_S512x64_S512x2_S512_n_01_n_n_01_1_11 p q (ix1 r)
      = p (ix2 ⟨min (q (ix2 r 0)).toInt.toNat 511, by omega⟩ ⟨min (q (ix2 r 1)).toInt.toNat 63, by omega⟩) := by
  unfold Host.gather
  congr 1
  funext a
  refine Fin.ext ?_
  have hm : a ∈ gather_S512x64_S512x2_S512_n_01_n_n_01_1_11.startIndexMap := by
    match a with
    | ⟨0, _⟩ => exact List.mem_cons_self
    | ⟨1, _⟩ => exact List.mem_cons_of_mem _ List.mem_cons_self
  change GatherDims.start _ _ q a + GatherDims.batchCoord _ _ a + GatherDims.offCoord _ _ a = _
  rw [GatherDims.batchCoord_eq_zero _ _ _ List.not_mem_nil,
    GatherDims.offCoord_eq_zero _ _ _ (fun h => ((GatherDims.mem_sKept _ _).mp h).1 hm), Nat.add_zero]
  unfold GatherDims.start
  rw [dif_pos hm]
  match a with
  | ⟨0, _⟩ => rw [pair_word]; rfl
  | ⟨1, _⟩ => rw [pair_word]; rfl

/-- The start word at which a token reads the experts' matrices. -/
theorem matrix_word (c) :
    gather_S64x256x512_S512x1_S512x256x512_12_0_n_n_0_1_1256512.siIdx (ix3 r k j) c = ix2 r 0 := by
  funext b
  refine Fin.ext ?_
  match b with
  | ⟨0, _⟩ => rfl
  | ⟨1, _⟩ => exact Nat.lt_one_iff.1 c.isLt

/-- An expert's matrix gathered. -/
theorem gather_matrix (V : FVec Ideal S64x256x512 .f32) (q : IVec S512x1 32) :
    Host.gather gather_S64x256x512_S512x1_S512x256x512_12_0_n_n_0_1_1256512 V q (ix3 r k j)
      = V (ix3 ⟨min (q (ix2 r 0)).toInt.toNat 63, by omega⟩ k j) := by
  unfold Host.gather
  congr 1
  funext a
  refine Fin.ext ?_
  change GatherDims.start _ _ q a + GatherDims.batchCoord _ _ a + GatherDims.offCoord _ _ a = _
  rw [GatherDims.batchCoord_eq_zero _ _ _ List.not_mem_nil, Nat.add_zero]
  unfold GatherDims.start GatherDims.offCoord
  match a with
  | ⟨0, h0⟩ =>
    have hm : (⟨0, h0⟩ : Fin S64x256x512.rank) ∈ gather_S64x256x512_S512x1_S512x256x512_12_0_n_n_0_1_1256512.startIndexMap :=
      List.mem_cons_self
    rw [dif_pos hm, matrix_word, dif_neg (fun h => ((GatherDims.mem_sKept _ _).mp h).1 hm), Nat.add_zero]
    rfl
  | ⟨1, h1⟩ =>
    have hm : (⟨1, h1⟩ : Fin S64x256x512.rank) ∉ gather_S64x256x512_S512x1_S512x256x512_12_0_n_n_0_1_1256512.startIndexMap :=
      show (1 : Fin 3) ∉ [(0 : Fin 3)] by decide
    rw [dif_neg hm, dif_pos ((GatherDims.mem_sKept _ _).mpr ⟨hm, List.not_mem_nil⟩), Nat.zero_add]
    rfl
  | ⟨2, h2⟩ =>
    have hm : (⟨2, h2⟩ : Fin S64x256x512.rank) ∉ gather_S64x256x512_S512x1_S512x256x512_12_0_n_n_0_1_1256512.startIndexMap :=
      show (2 : Fin 3) ∉ [(0 : Fin 3)] by decide
    rw [dif_neg hm, dif_pos ((GatherDims.mem_sKept _ _).mpr ⟨hm, List.not_mem_nil⟩), Nat.zero_add]
    rfl

end Gathers

section Masks

/-- A conjunction of bits is set when every bit is. -/
theorem andi_one (a b : BitVec 1) : IntOp.andi a b = 1#1 ↔ a = 1#1 ∧ b = 1#1 := by
  rcases BitVec.eq_zero_or_eq_one a with rfl | rfl <;> rcases BitVec.eq_zero_or_eq_one b with rfl | rfl <;> decide

theorem fold_andi {ι : Type} (t : Finset ι) (f : ι → BitVec 1) : Finset.fold IntOp.andi 1#1 f t = 1#1 ↔ ∀ a ∈ t, f a = 1#1 := by
  classical
  induction t using Finset.induction_on with
  | empty => simp
  | insert a t ha ih => rw [Finset.fold_insert ha, andi_one, ih, Finset.forall_mem_insert]

/-- A word between 0 and 63, read signed, names an expert. -/
theorem in_range (b : BitVec 32) : (IntOp.cmpi .sge b 0#32 = 1#1 ∧ IntOp.cmpi .sle b 63#32 = 1#1) ↔ b.toNat < 64 := by
  have hb := b.isLt
  unfold IntOp.cmpi
  rw [StableHlo.Predicate.ofBool_eq_one_iff, StableHlo.Predicate.ofBool_eq_one_iff, BitVec.sle_iff_toInt_le, BitVec.sle_iff_toInt_le]
  have h0 : (0#32 : BitVec 32).toInt = 0 := by decide
  have h63 : (63#32 : BitVec 32).toInt = 63 := by decide
  rw [h0, h63, BitVec.toInt_eq_toNat_cond b]
  split <;> omega

theorem places_zero : places e (ix2 r 0) = BitVec.ofNat 32 r.val := by pointwise [places, column]
theorem places_one : places e (ix2 r 1) = e (ix1 r) := by pointwise [places, column]
theorem column_apply : column e (ix2 r 0) = e (ix1 r) := by pointwise [column]

theorem inside_iff (h0 : lim (ix1 0) = 511#32) (h1 : lim (ix1 1) = 63#32) : inside lim e (ix1 r) = 1#1 ↔ (e (ix1 r)).toNat < 64 := by
  have h : inside lim e (ix1 r) = Finset.fold IntOp.andi 1#1 (fun a : Fin 2 => IntOp.andi (IntOp.cmpi .sge (places e (ix2 r a)) 0#32)
      (IntOp.cmpi .sle (places e (ix2 r a)) (lim (ix1 a)))) Finset.univ := by pointwise [inside]
  rw [h, fold_andi]
  have hr : IntOp.cmpi .sge (BitVec.ofNat 32 r.val) 0#32 = 1#1 ∧ IntOp.cmpi .sle (BitVec.ofNat 32 r.val) 511#32 = 1#1 := by
    have hv := r.isLt
    have hn : (BitVec.ofNat 32 r.val).toNat = r.val := by rw [BitVec.toNat_ofNat]; exact Nat.mod_eq_of_lt (by omega)
    rw [StableHlo.Predicate.sge_iff_toNat (by omega) (by decide), StableHlo.Predicate.sle_iff_toNat (by omega) (by decide), hn]
    exact ⟨Nat.zero_le _, by show r.val ≤ 511; omega⟩
  constructor
  · intro hh
    have := hh 1 (Finset.mem_univ _)
    rw [andi_one, places_one, h1] at this
    exact (in_range _).1 this
  · intro hb a _
    rw [andi_one]
    match a with
    | ⟨0, _⟩ => exact (show _ = _ from h0) ▸ (places_zero e r).symm ▸ hr
    | ⟨1, _⟩ => exact (show _ = _ from h1) ▸ (places_one e r).symm ▸ (in_range _).2 hb

theorem named_iff : named e (ix1 r) = 1#1 ↔ (e (ix1 r)).toNat < 64 := by
  have h : named e (ix1 r) = Finset.fold IntOp.andi 1#1 (fun a : Fin 1 => IntOp.andi (IntOp.cmpi .sge (e (ix1 r)) 0#32)
      (IntOp.cmpi .sle (e (ix1 r)) 63#32)) Finset.univ := by pointwise [named, column]
  rw [h, fold_andi, ← in_range, ← andi_one]
  exact ⟨fun hh => hh 0 (Finset.mem_univ _), fun hh a _ => hh⟩

end Masks

/-- A word that names an expert, read signed and brought into range, is itself. -/
theorem clamp_eq {b : BitVec 32} (h : b.toNat < 64) : min b.toInt.toNat 63 = b.toNat := by
  rw [BitVec.toInt_eq_toNat_cond, if_pos (by omega)]
  omega

theorem gate_apply (h0 : lim (ix1 0) = 511#32) (h1 : lim (ix1 1) = 63#32) (p : FVec Ideal S512x64 .f32) :
    gate lim e p (ix1 r) = if h : (e (ix1 r)).toNat < 64 then p (ix2 r ⟨_, h⟩) else 0 := by
  have h : gate lim e p (ix1 r) = Scalar.select (inside lim e (ix1 r))
      (Host.gather gather_S512x64_S512x2_S512_n_01_n_n_01_1_11 p (places e) (ix1 r)) 0 := by pointwise [gate]
  rw [h]
  by_cases hb : (e (ix1 r)).toNat < 64
  · rw [dif_pos hb, (inside_iff lim e r h0 h1).2 hb, gather_pair]
    show p _ = p _
    congr 2
    · refine Fin.ext ?_
      show min (places e (ix2 r 0)).toInt.toNat 511 = r.val
      have hv := r.isLt
      have hn : (BitVec.ofNat 32 r.val).toNat = r.val := by rw [BitVec.toNat_ofNat]; exact Nat.mod_eq_of_lt (by omega)
      rw [places_zero, BitVec.toInt_eq_toNat_cond, hn, if_pos (by omega)]
      omega
    · refine Fin.ext ?_
      show min (places e (ix2 r 1)).toInt.toNat 63 = (e (ix1 r)).toNat
      rw [places_one, clamp_eq hb]
  · rw [dif_neg hb, ValueIdx.eq_zero_of_ne_one fun h' => hb ((inside_iff lim e r h0 h1).1 h')]
    rfl

theorem expert_apply : expert W e (ix3 r k j) = if h : (e (ix1 r)).toNat < 64 then W (ix3 ⟨_, h⟩ k j) else 0 := by
  have h : expert W e (ix3 r k j) = Scalar.select (named e (ix1 r))
      (Host.gather gather_S64x256x512_S512x1_S512x256x512_12_0_n_n_0_1_1256512 (extf .f32 W bitsLt_bf16_f32) (column e) (ix3 r k j)) 0 := by
    pointwise [expert]
  rw [h]
  by_cases hb : (e (ix1 r)).toNat < 64
  · rw [dif_pos hb, (named_iff e r).2 hb, gather_matrix]
    show W _ = W _
    congr 2
    refine Fin.ext ?_
    show min (column e (ix2 r 0)).toInt.toNat 63 = (e (ix1 r)).toNat
    rw [column_apply, clamp_eq hb]
  · rw [dif_neg hb, ValueIdx.eq_zero_of_ne_one fun h' => hb ((named_iff e r).1 h')]
    rfl

/-! ## The result at an index -/

/-- A token's scores. -/
abbrev scoreRow : Fin 64 → EReal := fun n => ∑ k : Fin 256, x (ix2 r k) * w (ix2 k n)

theorem grades_apply : grades x w (ix2 r n) = Cert.MoE.grade (scoreRow x w r) n := by
  pointwise [grades, scores]
  rfl

theorem probs_apply : probs x w (ix2 r n) = Ideal.div (Cert.MoE.grade (scoreRow x w r) n) (∑ a, Cert.MoE.grade (scoreRow x w r) a) := by
  have h : probs x w (ix2 r n) = Ideal.div (grades x w (ix2 r n)) (∑ a, grades x w (ix2 r a)) := by pointwise [probs]
  rw [h, grades_apply]
  exact congrArg _ (Finset.sum_congr rfl fun a _ => grades_apply x w r a)

theorem pick0_apply : pick0 i (ix1 r) = i (ix2 r 0) := by pointwise [pick0]
theorem pick1_apply : pick1 i (ix1 r) = i (ix2 r 1) := by pointwise [pick1]

theorem weighed_apply (g s : FVec Ideal S512 .f32) : weighed x W e g s (ix2 r j)
    = Ideal.div (g (ix1 r)) (s (ix1 r)) * ∑ k : Fin 256, x (ix2 r k) * (if h : (e (ix1 r)).toNat < 64 then W (ix3 ⟨_, h⟩ k j) else 0) := by
  have h : weighed x W e g s (ix2 r j) = Ideal.div (g (ix1 r)) (s (ix1 r)) * ∑ k : Fin 256, x (ix2 r k) * expert W e (ix3 r k j) := by
    pointwise [weighed, product]
  rw [h]
  exact congrArg _ (Finset.sum_congr rfl fun k _ => by rw [expert_apply])

/-- A choice's gate where the scores are real. -/
theorem gate_picked (h0 : lim (ix1 0) = 511#32) (h1 : lim (ix1 1) = 63#32) {f : Fin 64 → ℝ} (hf : ∀ n, 0 < f n)
    (hs : Cert.MoE.grade (scoreRow x w r) = fun n => (f n : EReal)) :
    gate lim e (probs x w) (ix1 r) = ((Cert.MoE.picked f (e (ix1 r)) / ∑ n, f n : ℝ) : EReal) := by
  have hS : (0 : ℝ) < ∑ n, f n := Finset.sum_pos (fun n _ => hf n) Finset.univ_nonempty
  have hc : ∑ n, Cert.MoE.grade (scoreRow x w r) n = ((∑ n, f n : ℝ) : EReal) := by
    rw [hs]; exact (Cert.MoE.coe_sum_real f).symm
  rw [gate_apply _ _ _ h0 h1]
  unfold Cert.MoE.picked
  by_cases h : (e (ix1 r)).toNat < 64
  · rw [dif_pos h, dif_pos h, probs_apply, hc, hs, Ideal.div_coe hS.ne', ← EReal.coe_mul, mul_one_div]
  · rw [dif_neg h, dif_neg h, zero_div, EReal.coe_zero]

/-- The reference's result at a token and a feature, where the token's scores are real. -/
theorem out_apply {f : Fin 64 → ℝ} (hf : ∀ n, 0 < f n) (hs : Cert.MoE.grade (scoreRow x w r) = fun n => (f n : EReal)) :
    out x w i W (ix2 r j)
      = Ideal.div (Cert.MoE.picked f (i (ix2 r 0)) : EReal) (Cert.MoE.picked f (i (ix2 r 0)) + Cert.MoE.picked f (i (ix2 r 1)) : ℝ)
          * (∑ k : Fin 256, x (ix2 r k) * (if h : (i (ix2 r 0)).toNat < 64 then W (ix3 ⟨_, h⟩ k j) else 0))
        + Ideal.div (Cert.MoE.picked f (i (ix2 r 1)) : EReal) (Cert.MoE.picked f (i (ix2 r 0)) + Cert.MoE.picked f (i (ix2 r 1)) : ℝ)
          * (∑ k : Fin 256, x (ix2 r k) * (if h : (i (ix2 r 1)).toNat < 64 then W (ix3 ⟨_, h⟩ k j) else 0)) := by
  have hS : (0 : ℝ) < ∑ n, f n := Finset.sum_pos (fun n _ => hf n) Finset.univ_nonempty
  have g0 := gate_picked x w (fun k => lit0 (S2.rowMajor k)) (pick0 i) r rfl rfl hf hs
  have g1 := gate_picked x w (fun k => lit1 (S2.rowMajor k)) (pick1 i) r rfl rfl hf hs
  rw [pick0_apply] at g0
  rw [pick1_apply] at g1
  unfold out
  show weighed x W (pick0 i) _ _ (ix2 r j) + weighed x W (pick1 i) _ _ (ix2 r j) = _
  rw [weighed_apply, weighed_apply, pick0_apply, pick1_apply]
  show Ideal.div (gate _ _ _ _) (gate _ _ _ _ + gate _ _ _ _) * _ + Ideal.div (gate _ _ _ _) (gate _ _ _ _ + gate _ _ _ _) * _ = _
  rw [g0, g1, ← EReal.coe_add, ← add_div, Cert.MoE.div_scaled _ _ hS, Cert.MoE.div_scaled _ _ hS]

end Cert.MoE.Looked

end
-- ==== Proof.Proof.Equal.lean ====
/-
# The kernel's result is the reference's

Under finite activations and router weights: both results at an index, and the two runs side by side.
-/
module

public import proofs.«01_k».proof.Proof.Proof.Framed
public import proofs.«01_k».proof.Proof.Proof.Parts
public import proofs.«01_k».proof.Proof.Proof.Looked

@[expose] public section

noncomputable section

namespace Cert.MoE

open Cert.KernelIdeal Cert.KernelIdeal.Gen
open Idealize.ShloMosaic
open Idealize.ShloMosaic.TcCoe
open Idealize.ShloMosaic.Pointwise
open Idealize.SL.Sem

attribute [local instance] Cert.KernelIdeal.Gen.facts Cert.ReferenceIdeal.Gen.facts

set_option maxRecDepth 16384

/-! ## The precondition -/

instance : Cert.Pre_finite_scores_KernelIdeal.Facts := ⟨by decide, by decide⟩
instance : Cert.Pre_finite_scores_ReferenceIdeal.Facts := ⟨by decide, by decide⟩

/-- The word of infinity is infinity. -/
theorem ofBits_top : Ideal.ofBits FTy.bf16 0x7F80#16 = ⊤ := by
  simp [Ideal.ofBits, Ideal.ieee]

/-- What is less than infinity in size is real. -/
theorem real_of_small (v : EReal) (h : Ideal.cmp .olt (max v (-v)) ⊤ = 1#1) : ∃ r : ℝ, v = r := by
  have hlt : max v (-v) < ⊤ := by
    unfold Ideal.cmp at h
    exact of_decide_eq_true ((StableHlo.Predicate.ofBool_eq_one_iff _).1 h)
  have ht : v ≠ ⊤ := fun e => by rw [e] at hlt; exact absurd hlt (by simp)
  have hb : v ≠ ⊥ := fun e => by rw [e] at hlt; exact absurd hlt (by simp)
  exact ⟨_, (EReal.coe_toReal ht hb).symm⟩

variable (x : FVec Ideal S512x256 .bf16) (w : FVec Ideal S256x64 .bf16) (i : IVec S512x2 32)

theorem real_inputs (e : FVec Ideal S2x256x512 .bf16)
    (h : (Cert.Pre_finite_scores_KernelIdeal.fn (F := Ideal) x w i e).1 = (fun _ => 1#1) ∧ (Cert.Pre_finite_scores_KernelIdeal.fn (F := Ideal) x w i e).2 = (fun _ => 1#1)) :
    (∀ r k, ∃ t : ℝ, x (ix2 r k) = t) ∧ (∀ k n, ∃ t : ℝ, w (ix2 k n) = t) := by
  constructor
  · intro r k
    refine real_of_small _ ?_
    rw [← ofBits_top]
    exact congrFun h.1 (ix2 r k)
  · intro k n
    refine real_of_small _ ?_
    rw [← ofBits_top]
    exact congrFun h.2 (ix2 k n)

/-- Every score is real. -/
theorem real_scores (hx : ∀ r k, ∃ t : ℝ, x (ix2 r k) = t) (hw : ∀ k n, ∃ t : ℝ, w (ix2 k n) = t) (r : Fin 512) (n : Fin 64) :
    ∃ t : ℝ, scoresOf x w r n = t := by
  refine sum_real _ fun k => ?_
  obtain ⟨a, ha⟩ := hx r k
  obtain ⟨b, hb⟩ := hw k n
  exact ⟨a * b, by rw [ha, hb, EReal.coe_mul]⟩

/-! ## The two results -/

/-- The kernel's result on a device is the reference's at the device's block of rows. -/
theorem outOf_eq (hx : ∀ r k, ∃ t : ℝ, x (ix2 r k) = t) (hw : ∀ k n, ∃ t : ℝ, w (ix2 k n) = t)
    (W : FVec Ideal ⟨3, ![64, 256, 512]⟩ .bf16) (A : Dev nD → Args Ideal) (hAx : ∀ s, (A s).x = x) (hAw : ∀ s, (A s).w = w) (hAi : ∀ s, (A s).i = i)
    (hAe : ∀ (s : Dev nD) (l : Fin 2) (k : Fin 256) (j : Fin 512), (A s).e (ix3 l k j) = W (ix3 ⟨2 * s.val + l.val, by have h : s.val < 32 := s.isLt; omega⟩ k j))
    (c : Dev nD) (r : Fin 16) (j : Fin 512) :
    outOf A c (ix2 r j) = Looked.out x w i W (ix2 (blockRow c r) j) := by
  obtain ⟨f, hf, hs⟩ := grade_real (scoresOf x w (blockRow c r)) (real_scores x w hx hw _)
  rw [Looked.out_apply x w i W (blockRow c r) j hf hs, outOf_apply,
    ← sum_experts f hf _ _ (fun k => x (ix2 (blockRow c r) k)) (fun n k => W (ix3 n k j)), ← sum_devices]
  refine Finset.sum_congr rfl fun s _ => ?_
  have hs' : grade (scoresOf (A s).x (A s).w (blockRow c r)) = fun n => (f n : EReal) := by rw [hAx, hAw]; exact hs
  rw [part0_apply (A s) _ j hs' s, part1_apply (A s) _ j hs' s, hAi, hAx]
  refine congrArg₂ _ (Finset.sum_congr rfl fun k _ => ?_) (Finset.sum_congr rfl fun k _ => ?_)
  · rw [hAe]; rfl
  · rw [hAe]; rfl

theorem algebraic_moe : Cert.algebraic_KernelIdeal_ReferenceIdeal_pre_finite_scores_KernelIdeal := fun m g m' g' hp hm => by
  refine ⟨Cert.ReferenceIdeal.Value.res_main_v79 m' 0, ?_, ?_⟩
  · refine (θ_run (Cert.KernelIdeal.defs (F := Ideal)) _ _).mono (fun r h c => ⟨?_, (h.1 c).2⟩) (run_framed (F := Ideal) m g)
    rw [(h.1 c).1, final_out, Looked.res_eq]
    obtain ⟨hx, hw⟩ := real_inputs _ _ _ _ (hp 0)
    rw [(hm 0).1] at hx
    rw [(hm 0).2.1] at hw
    funext y
    obtain ⟨y0, y1, rfl⟩ : ∃ (y0 : Fin 16) (y1 : Fin 512), y = ix2 y0 y1 := ⟨_, _, eq_ix2 y⟩
    let W : FVec Ideal ⟨3, ![64, 256, 512]⟩ .bf16 :=
      m' (((0 : Dev Cert.ReferenceIdeal.nD).tc : Thread Cert.ReferenceIdeal.nD Cert.ReferenceIdeal.τ).loc Cert.ReferenceIdeal.main_arg3)
    refine (outOf_eq _ _ _ hx hw W (args m g) (fun s => (args_x m g s).trans (hm s).1) (fun s => (args_w m g s).trans (hm s).2.1)
      (fun s => (args_i m g s).trans (hm s).2.2.1) (fun s l k j => ?_) c y0 y1).trans ?_
    · rw [args_e, (hm s).2.2.2]
      refine congrArg W (funext fun b => Fin.ext ?_)
      match b with
      | ⟨0, _⟩ => exact Nat.add_right_cancel_iff.2 (Nat.mul_comm _ _)
      | ⟨1, _⟩ => rfl
      | ⟨2, _⟩ => rfl
    · refine congrArg (Looked.out _ _ _ W) (funext fun b => Fin.ext ?_)
      match b with
      | ⟨0, _⟩ => exact Nat.add_right_cancel_iff.2 (Nat.mul_comm _ _)
      | ⟨1, _⟩ => rfl
  · exact (θ_run Cert.ReferenceIdeal.defs _ _).mono (fun r h => h 0) (Cert.ReferenceIdeal.Value.run m' g')

end Cert.MoE

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Proof.Framed
public import proofs.«01_k».proof.Proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, inferInstance, inferInstance,
  Cert.MoE.frame_kernel, Cert.MoE.frame_ideal, fun m g _ => Cert.MoE.frame_ideal m g trivial,
  Cert.MoE.frame_reference, fun m g _ => Cert.MoE.frame_reference m g trivial, trivial, Cert.MoE.algebraic_moe⟩

end Cert.Proof

end
